-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x128 : Shape := ⟨2, ![128, 128]⟩
abbrev S8x16 : Shape := ⟨2, ![8, 16]⟩
abbrev S128 : Shape := ⟨1, ![128]⟩
abbrev S1x128x128 : Shape := ⟨3, ![1, 128, 128]⟩
abbrev S2x128x128 : Shape := ⟨3, ![2, 128, 128]⟩
abbrev S8x8 : Shape := ⟨2, ![8, 8]⟩
abbrev S_ : Shape := ⟨0, ![]⟩
abbrev S8x1x8 : Shape := ⟨3, ![8, 1, 8]⟩
abbrev S8x16x1 : Shape := ⟨3, ![8, 16, 1]⟩
abbrev S8x16x8 : Shape := ⟨3, ![8, 16, 8]⟩
abbrev S128x8 : Shape := ⟨2, ![128, 8]⟩
abbrev S128x16 : Shape := ⟨2, ![128, 16]⟩
abbrev S1x128x16 : Shape := ⟨3, ![1, 128, 16]⟩
abbrev S2x128x16 : Shape := ⟨3, ![2, 128, 16]⟩
abbrev S2x10000x128 : Shape := ⟨3, ![2, 10000, 128]⟩
abbrev S2x10000x16 : Shape := ⟨3, ![2, 10000, 16]⟩
abbrev S1x10000x128 : Shape := ⟨3, ![1, 10000, 128]⟩
abbrev S1x10000x16 : Shape := ⟨3, ![1, 10000, 16]⟩
abbrev S10000x16 : Shape := ⟨2, ![10000, 16]⟩
abbrev S1x320000 : Shape := ⟨2, ![1, 320000]⟩
abbrev S320000 : Shape := ⟨1, ![320000]⟩
abbrev S320000x1 : Shape := ⟨2, ![320000, 1]⟩
abbrev S320000x2 : Shape := ⟨2, ![320000, 2]⟩
abbrev S320000x8 : Shape := ⟨2, ![320000, 8]⟩
abbrev S10000x8 : Shape := ⟨2, ![10000, 8]⟩
abbrev S320000x128 : Shape := ⟨2, ![320000, 128]⟩
abbrev S320000x8x16 : Shape := ⟨3, ![320000, 8, 16]⟩
abbrev S320000x8x1 : Shape := ⟨3, ![320000, 8, 1]⟩
abbrev S1x128 : Shape := ⟨2, ![1, 128]⟩

abbrev nBuf : Space → Nat
  | .hbm => 213
  | .vmem => 13
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S8x16, .f32⟩
  | 4 => ⟨S8x16, .f32⟩
  | 5 => ⟨S128, .f32⟩
  | 6 => ⟨S128x128, .f32⟩
  | 7 => ⟨S8x16, .f32⟩
  | 8 => ⟨S8x16, .f32⟩
  | 9 => ⟨S128, .f32⟩
  | 10 => ⟨S1x128x128, .f32⟩
  | 11 => ⟨S1x128x128, .f32⟩
  | 12 => ⟨S2x128x128, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S8x8, .f32⟩
  | 20 => ⟨S8x1x8, .f32⟩
  | 21 => ⟨S8x16x1, .f32⟩
  | 22 => ⟨S8x16x8, .f32⟩
  | 23 => ⟨S8x16x8, .f32⟩
  | 24 => ⟨S8x16x8, .f32⟩
  | 25 => ⟨S128x8, .f32⟩
  | 26 => ⟨S8x16x1, .f32⟩
  | 27 => ⟨S8x16x8, .f32⟩
  | 28 => ⟨S8x16x8, .f32⟩
  | 29 => ⟨S8x16x8, .f32⟩
  | 30 => ⟨S128x8, .f32⟩
  | 31 => ⟨S128x16, .f32⟩
  | 32 => ⟨S8x8, .i32⟩
  | 33 => ⟨S8x8, .i32⟩
  | 34 => ⟨S_, .i32⟩
  | 35 => ⟨S8x8, .i32⟩
  | 36 => ⟨S8x8, .i32⟩
  | 37 => ⟨S8x8, .i1⟩
  | 38 => ⟨S8x8, .f32⟩
  | 39 => ⟨S8x1x8, .f32⟩
  | 40 => ⟨S8x16x1, .f32⟩
  | 41 => ⟨S8x16x8, .f32⟩
  | 42 => ⟨S8x16x8, .f32⟩
  | 43 => ⟨S8x16x8, .f32⟩
  | 44 => ⟨S128x8, .f32⟩
  | 45 => ⟨S8x16x1, .f32⟩
  | 46 => ⟨S8x16x8, .f32⟩
  | 47 => ⟨S8x16x8, .f32⟩
  | 48 => ⟨S8x16x8, .f32⟩
  | 49 => ⟨S128x8, .f32⟩
  | 50 => ⟨S128x16, .f32⟩
  | 51 => ⟨S1x128x16, .f32⟩
  | 52 => ⟨S1x128x16, .f32⟩
  | 53 => ⟨S2x128x16, .f32⟩
  | 54 => ⟨S2x10000x128, .f32⟩
  | 55 => ⟨S2x10000x16, .f32⟩
  | 56 => ⟨S1x320000, .i32⟩
  | 57 => ⟨S320000, .i32⟩
  | 58 => ⟨S1x320000, .i32⟩
  | 59 => ⟨S320000, .i32⟩
  | 60 => ⟨S1x10000x128, .f32⟩
  | 61 => ⟨S10000x128, .f32⟩
  | 62 => ⟨S1x10000x16, .f32⟩
  | 63 => ⟨S10000x16, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S_, .i32⟩
  | 73 => ⟨S320000x1, .i32⟩
  | 74 => ⟨S320000x2, .i32⟩
  | 75 => ⟨S320000x8, .f32⟩
  | 76 => ⟨S_, .i32⟩
  | 77 => ⟨S320000, .i32⟩
  | 78 => ⟨S320000, .i1⟩
  | 79 => ⟨S_, .i32⟩
  | 80 => ⟨S320000, .i32⟩
  | 81 => ⟨S320000, .i32⟩
  | 82 => ⟨S320000, .i32⟩
  | 83 => ⟨S320000x1, .i32⟩
  | 84 => ⟨S_, .i32⟩
  | 85 => ⟨S320000x1, .i32⟩
  | 86 => ⟨S320000x2, .i32⟩
  | 87 => ⟨S320000x8, .f32⟩
  | 88 => ⟨S320000x8, .f32⟩
  | 89 => ⟨S_, .f32⟩
  | 90 => ⟨S320000x8, .f32⟩
  | 91 => ⟨S320000x8, .f32⟩
  | 92 => ⟨S320000x8, .f32⟩
  | 93 => ⟨S320000x8, .f32⟩
  | 94 => ⟨S_, .f32⟩
  | 95 => ⟨S10000x8, .f32⟩
  | 96 => ⟨S320000x1, .i32⟩
  | 97 => ⟨S10000x8, .f32⟩
  | 98 => ⟨S_, .f32⟩
  | 99 => ⟨S10000x8, .f32⟩
  | 100 => ⟨S10000x8, .f32⟩
  | 101 => ⟨S_, .f32⟩
  | 102 => ⟨S10000x8, .f32⟩
  | 103 => ⟨S10000x8, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S320000x8, .f32⟩
  | 113 => ⟨S320000x8, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x128, .f32⟩
  | 123 => ⟨S320000x8x16, .f32⟩
  | 124 => ⟨S320000x8x1, .f32⟩
  | 125 => ⟨S320000x8x16, .f32⟩
  | 126 => ⟨S320000x8x16, .f32⟩
  | 127 => ⟨S320000x128, .f32⟩
  | _ => ⟨S10000x128, .f32⟩

abbrev hbmTy0_1 (i : Nat) : BufTy := match i % 128 with
  | 0 => ⟨S_, .f32⟩
  | 1 => ⟨S10000x128, .f32⟩
  | 2 => ⟨S320000x1, .i32⟩
  | 3 => ⟨S10000x128, .f32⟩
  | 4 => ⟨S1x10000x128, .f32⟩
  | 5 => ⟨S10000x128, .f32⟩
  | 6 => ⟨S1x10000x16, .f32⟩
  | 7 => ⟨S10000x16, .f32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S_, .i32⟩
  | 17 => ⟨S320000x1, .i32⟩
  | 18 => ⟨S320000x2, .i32⟩
  | 19 => ⟨S320000x8, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S_, .i32⟩
  | 29 => ⟨S320000x1, .i32⟩
  | 30 => ⟨S320000x2, .i32⟩
  | 31 => ⟨S320000x8, .f32⟩
  | 32 => ⟨S320000x8, .f32⟩
  | 33 => ⟨S_, .f32⟩
  | 34 => ⟨S320000x8, .f32⟩
  | 35 => ⟨S320000x8, .f32⟩
  | 36 => ⟨S320000x8, .f32⟩
  | 37 => ⟨S320000x8, .f32⟩
  | 38 => ⟨S_, .f32⟩
  | 39 => ⟨S10000x8, .f32⟩
  | 40 => ⟨S320000x1, .i32⟩
  | 41 => ⟨S10000x8, .f32⟩
  | 42 => ⟨S_, .f32⟩
  | 43 => ⟨S10000x8, .f32⟩
  | 44 => ⟨S10000x8, .f32⟩
  | 45 => ⟨S_, .f32⟩
  | 46 => ⟨S10000x8, .f32⟩
  | 47 => ⟨S10000x8, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x8, .f32⟩
  | 57 => ⟨S320000x8, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x128, .f32⟩
  | 67 => ⟨S320000x8x16, .f32⟩
  | 68 => ⟨S320000x8x1, .f32⟩
  | 69 => ⟨S320000x8x16, .f32⟩
  | 70 => ⟨S320000x8x16, .f32⟩
  | 71 => ⟨S320000x128, .f32⟩
  | 72 => ⟨S_, .f32⟩
  | 73 => ⟨S10000x128, .f32⟩
  | 74 => ⟨S320000x1, .i32⟩
  | 75 => ⟨S10000x128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S128, .f32⟩
  | 83 => ⟨S1x128, .f32⟩
  | 84 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S1x128x128, .f32⟩
  | .local _ .vmem, ⟨2, _⟩ => ⟨S1x128x128, .f32⟩
  | .local _ .vmem, ⟨3, _⟩ => ⟨S1x128x16, .f32⟩
  | .local _ .vmem, ⟨4, _⟩ => ⟨S1x128x16, .f32⟩
  | .local _ .vmem, ⟨5, _⟩ => ⟨S1x10000x128, .f32⟩
  | .local _ .vmem, ⟨6, _⟩ => ⟨S1x10000x128, .f32⟩
  | .local _ .vmem, ⟨7, _⟩ => ⟨S1x10000x16, .f32⟩
  | .local _ .vmem, ⟨8, _⟩ => ⟨S1x10000x16, .f32⟩
  | .local _ .vmem, ⟨9, _⟩ => ⟨S10000x128, .f32⟩
  | .local _ .vmem, ⟨10, _⟩ => ⟨S10000x128, .f32⟩
  | .local _ .vmem, ⟨11, _⟩ => ⟨S1x128, .f32⟩
  | .local _ .vmem, ⟨12, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_1 : Ref sig .tc := ⟨.hbm, 64, rfl⟩
abbrev main_v51 : Ref sig .tc := ⟨.hbm, 65, rfl⟩
abbrev main_v52 : Ref sig .tc := ⟨.hbm, 66, rfl⟩
abbrev main_c_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_4 : Ref sig .tc := ⟨.hbm, 76, rfl⟩
abbrev main_v60 : Ref sig .tc := ⟨.hbm, 77, rfl⟩
abbrev main_v61 : Ref sig .tc := ⟨.hbm, 78, rfl⟩
abbrev main_c_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_6 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_8 : Ref sig .tc := ⟨.hbm, 98, rfl⟩
abbrev main_v77 : Ref sig .tc := ⟨.hbm, 99, rfl⟩
abbrev main_v78 : Ref sig .tc := ⟨.hbm, 100, rfl⟩
abbrev main_cst_9 : Ref sig .tc := ⟨.hbm, 101, rfl⟩
abbrev main_v79 : Ref sig .tc := ⟨.hbm, 102, rfl⟩
abbrev main_v80 : Ref sig .tc := ⟨.hbm, 103, rfl⟩
abbrev main_c_10 : Ref sig .tc := ⟨.hbm, 104, rfl⟩
abbrev main_v81 : Ref sig .tc := ⟨.hbm, 105, rfl⟩
abbrev main_v82 : Ref sig .tc := ⟨.hbm, 106, rfl⟩
abbrev main_c_11 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_12 : Ref sig .tc := ⟨.hbm, 114, rfl⟩
abbrev main_v89 : Ref sig .tc := ⟨.hbm, 115, rfl⟩
abbrev main_v90 : Ref sig .tc := ⟨.hbm, 116, rfl⟩
abbrev main_c_13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_14 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_c_15 : Ref sig .tc := ⟨.hbm, 136, rfl⟩
abbrev main_v108 : Ref sig .tc := ⟨.hbm, 137, rfl⟩
abbrev main_v109 : Ref sig .tc := ⟨.hbm, 138, rfl⟩
abbrev main_c_16 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c_17 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_18 : Ref sig .tc := ⟨.hbm, 148, rfl⟩
abbrev main_v117 : Ref sig .tc := ⟨.hbm, 149, rfl⟩
abbrev main_v118 : Ref sig .tc := ⟨.hbm, 150, rfl⟩
abbrev main_c_19 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_c_20 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_21 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_22 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_23 : Ref sig .tc := ⟨.hbm, 170, rfl⟩
abbrev main_v134 : Ref sig .tc := ⟨.hbm, 171, rfl⟩
abbrev main_v135 : Ref sig .tc := ⟨.hbm, 172, rfl⟩
abbrev main_cst_24 : Ref sig .tc := ⟨.hbm, 173, rfl⟩
abbrev main_v136 : Ref sig .tc := ⟨.hbm, 174, rfl⟩
abbrev main_v137 : Ref sig .tc := ⟨.hbm, 175, rfl⟩
abbrev main_c_25 : Ref sig .tc := ⟨.hbm, 176, rfl⟩
abbrev main_v138 : Ref sig .tc := ⟨.hbm, 177, rfl⟩
abbrev main_v139 : Ref sig .tc := ⟨.hbm, 178, rfl⟩
abbrev main_c_26 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_c_27 : Ref sig .tc := ⟨.hbm, 186, rfl⟩
abbrev main_v146 : Ref sig .tc := ⟨.hbm, 187, rfl⟩
abbrev main_v147 : Ref sig .tc := ⟨.hbm, 188, rfl⟩
abbrev main_c_28 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_29 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_30 : Ref sig .tc := ⟨.hbm, 204, rfl⟩
abbrev main_v161 : Ref sig .tc := ⟨.hbm, 205, rfl⟩
abbrev main_v162 : Ref sig .tc := ⟨.hbm, 206, rfl⟩
abbrev main_cst_31 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x10000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x128 : Shape := ⟨2, ![128, 128]⟩
abbrev S8x16 : Shape := ⟨2, ![8, 16]⟩
abbrev S128 : Shape := ⟨1, ![128]⟩
abbrev S10000x8x16 : Shape := ⟨3, ![10000, 8, 16]⟩
abbrev S1x320000 : Shape := ⟨2, ![1, 320000]⟩
abbrev S320000 : Shape := ⟨1, ![320000]⟩
abbrev S1x8x16 : Shape := ⟨3, ![1, 8, 16]⟩
abbrev S_ : Shape := ⟨0, ![]⟩
abbrev S10000x8 : Shape := ⟨2, ![10000, 8]⟩
abbrev S320000x1 : Shape := ⟨2, ![320000, 1]⟩
abbrev S320000x8 : Shape := ⟨2, ![320000, 8]⟩
abbrev S10000 : Shape := ⟨1, ![10000]⟩
abbrev S1x10000 : Shape := ⟨2, ![1, 10000]⟩
abbrev S320000x10000 : Shape := ⟨2, ![320000, 10000]⟩
abbrev S320000x10000x1 : Shape := ⟨3, ![320000, 10000, 1]⟩
abbrev S320000x1x8 : Shape := ⟨3, ![320000, 1, 8]⟩
abbrev S320000x10000x8 : Shape := ⟨3, ![320000, 10000, 8]⟩
abbrev S320000x8x16 : Shape := ⟨3, ![320000, 8, 16]⟩
abbrev S320000x8x1 : Shape := ⟨3, ![320000, 8, 1]⟩
abbrev S1x128 : Shape := ⟨2, ![1, 128]⟩

abbrev nBuf : Space → Nat
  | .hbm => 278
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S8x16, .f32⟩
  | 4 => ⟨S8x16, .f32⟩
  | 5 => ⟨S128, .f32⟩
  | 6 => ⟨S128x128, .f32⟩
  | 7 => ⟨S8x16, .f32⟩
  | 8 => ⟨S8x16, .f32⟩
  | 9 => ⟨S128, .f32⟩
  | 10 => ⟨S10000x128, .f32⟩
  | 11 => ⟨S10000x8x16, .f32⟩
  | 12 => ⟨S1x320000, .i32⟩
  | 13 => ⟨S320000, .i32⟩
  | 14 => ⟨S1x320000, .i32⟩
  | 15 => ⟨S320000, .i32⟩
  | 16 => ⟨S1x8x16, .f32⟩
  | 17 => ⟨S10000x8x16, .f32⟩
  | 18 => ⟨S10000x8x16, .f32⟩
  | 19 => ⟨S_, .f32⟩
  | 20 => ⟨S10000x8, .f32⟩
  | 21 => ⟨S1x8x16, .f32⟩
  | 22 => ⟨S10000x8x16, .f32⟩
  | 23 => ⟨S10000x8x16, .f32⟩
  | 24 => ⟨S_, .f32⟩
  | 25 => ⟨S10000x8, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x8, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S320000x8, .f32⟩
  | 44 => ⟨S320000x8, .f32⟩
  | 45 => ⟨S_, .f32⟩
  | 46 => ⟨S_, .f32⟩
  | 47 => ⟨S320000x8, .f32⟩
  | 48 => ⟨S320000x8, .i1⟩
  | 49 => ⟨S_, .f32⟩
  | 50 => ⟨S320000x8, .f32⟩
  | 51 => ⟨S320000x8, .f32⟩
  | 52 => ⟨S320000x8, .f32⟩
  | 53 => ⟨S320000x1, .i32⟩
  | 54 => ⟨S10000, .i32⟩
  | 55 => ⟨S1x10000, .i32⟩
  | 56 => ⟨S320000x10000, .i32⟩
  | 57 => ⟨S320000x10000, .i32⟩
  | 58 => ⟨S320000x10000, .i1⟩
  | 59 => ⟨S320000x10000x1, .i1⟩
  | 60 => ⟨S320000x1x8, .f32⟩
  | 61 => ⟨S_, .f32⟩
  | 62 => ⟨S_, .f32⟩
  | 63 => ⟨S320000x10000x8, .i1⟩
  | 64 => ⟨S320000x10000x8, .f32⟩
  | 65 => ⟨S320000x10000x8, .f32⟩
  | 66 => ⟨S320000x10000x8, .f32⟩
  | 67 => ⟨S_, .f32⟩
  | 68 => ⟨S10000x8, .f32⟩
  | 69 => ⟨S10000x8, .f32⟩
  | 70 => ⟨S_, .f32⟩
  | 71 => ⟨S10000x8, .f32⟩
  | 72 => ⟨S10000x8, .i1⟩
  | 73 => ⟨S_, .f32⟩
  | 74 => ⟨S_, .f32⟩
  | 75 => ⟨S10000x8, .f32⟩
  | 76 => ⟨S10000x8, .f32⟩
  | 77 => ⟨S_, .i32⟩
  | 78 => ⟨S320000, .i32⟩
  | 79 => ⟨S320000, .i1⟩
  | 80 => ⟨S_, .i32⟩
  | 81 => ⟨S320000, .i32⟩
  | 82 => ⟨S320000, .i32⟩
  | 83 => ⟨S320000, .i32⟩
  | 84 => ⟨S320000x1, .i32⟩
  | 85 => ⟨S320000x8, .f32⟩
  | 86 => ⟨S320000x8, .f32⟩
  | 87 => ⟨S320000x8, .f32⟩
  | 88 => ⟨S_, .f32⟩
  | 89 => ⟨S10000x8, .f32⟩
  | 90 => ⟨S320000x1, .i32⟩
  | 91 => ⟨S10000x8, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x8, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x8, .f32⟩
  | 110 => ⟨S320000x8, .f32⟩
  | 111 => ⟨S320000x8, .f32⟩
  | 112 => ⟨S_, .f32⟩
  | 113 => ⟨S320000x8, .f32⟩
  | 114 => ⟨S320000x8, .f32⟩
  | 115 => ⟨S320000x8, .f32⟩
  | 116 => ⟨S320000x8, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000x8x16, .f32⟩
  | 126 => ⟨S320000x8x1, .f32⟩
  | 127 => ⟨S320000x8x16, .f32⟩
  | _ => ⟨S10000x128, .f32⟩

abbrev hbmTy0_1 (i : Nat) : BufTy := match i % 128 with
  | 0 => ⟨S320000x8x16, .f32⟩
  | 1 => ⟨S_, .f32⟩
  | 2 => ⟨S10000x8x16, .f32⟩
  | 3 => ⟨S320000x1, .i32⟩
  | 4 => ⟨S10000x8x16, .f32⟩
  | 5 => ⟨S10000x128, .f32⟩
  | 6 => ⟨S1x128, .f32⟩
  | 7 => ⟨S10000x128, .f32⟩
  | 8 => ⟨S10000x128, .f32⟩
  | 9 => ⟨S1x320000, .i32⟩
  | 10 => ⟨S320000, .i32⟩
  | 11 => ⟨S1x320000, .i32⟩
  | 12 => ⟨S320000, .i32⟩
  | 13 => ⟨S1x320000, .i32⟩
  | 14 => ⟨S1x320000, .i32⟩
  | 15 => ⟨S2x320000, .i32⟩
  | 16 => ⟨S10000x128, .f32⟩
  | 17 => ⟨S10000x8x16, .f32⟩
  | 18 => ⟨S1x320000, .i32⟩
  | 19 => ⟨S320000, .i32⟩
  | 20 => ⟨S1x320000, .i32⟩
  | 21 => ⟨S320000, .i32⟩
  | 22 => ⟨S1x8x16, .f32⟩
  | 23 => ⟨S10000x8x16, .f32⟩
  | 24 => ⟨S10000x8x16, .f32⟩
  | 25 => ⟨S_, .f32⟩
  | 26 => ⟨S10000x8, .f32⟩
  | 27 => ⟨S1x8x16, .f32⟩
  | 28 => ⟨S10000x8x16, .f32⟩
  | 29 => ⟨S10000x8x16, .f32⟩
  | 30 => ⟨S_, .f32⟩
  | 31 => ⟨S10000x8, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x8, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x8, .f32⟩
  | 50 => ⟨S320000x8, .f32⟩
  | 51 => ⟨S_, .f32⟩
  | 52 => ⟨S_, .f32⟩
  | 53 => ⟨S320000x8, .f32⟩
  | 54 => ⟨S320000x8, .i1⟩
  | 55 => ⟨S_, .f32⟩
  | 56 => ⟨S320000x8, .f32⟩
  | 57 => ⟨S320000x8, .f32⟩
  | 58 => ⟨S320000x8, .f32⟩
  | 59 => ⟨S320000x1, .i32⟩
  | 60 => ⟨S10000, .i32⟩
  | 61 => ⟨S1x10000, .i32⟩
  | 62 => ⟨S320000x10000, .i32⟩
  | 63 => ⟨S320000x10000, .i32⟩
  | 64 => ⟨S320000x10000, .i1⟩
  | 65 => ⟨S320000x10000x1, .i1⟩
  | 66 => ⟨S320000x1x8, .f32⟩
  | 67 => ⟨S_, .f32⟩
  | 68 => ⟨S_, .f32⟩
  | 69 => ⟨S320000x10000x8, .i1⟩
  | 70 => ⟨S320000x10000x8, .f32⟩
  | 71 => ⟨S320000x10000x8, .f32⟩
  | 72 => ⟨S320000x10000x8, .f32⟩
  | 73 => ⟨S_, .f32⟩
  | 74 => ⟨S10000x8, .f32⟩
  | 75 => ⟨S10000x8, .f32⟩
  | 76 => ⟨S_, .f32⟩
  | 77 => ⟨S10000x8, .f32⟩
  | 78 => ⟨S10000x8, .i1⟩
  | 79 => ⟨S_, .f32⟩
  | 80 => ⟨S_, .f32⟩
  | 81 => ⟨S10000x8, .f32⟩
  | 82 => ⟨S10000x8, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x8, .f32⟩
  | 92 => ⟨S320000x8, .f32⟩
  | 93 => ⟨S320000x8, .f32⟩
  | 94 => ⟨S_, .f32⟩
  | 95 => ⟨S10000x8, .f32⟩
  | 96 => ⟨S320000x1, .i32⟩
  | 97 => ⟨S10000x8, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x8, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x8, .f32⟩
  | 116 => ⟨S320000x8, .f32⟩
  | 117 => ⟨S320000x8, .f32⟩
  | 118 => ⟨S_, .f32⟩
  | 119 => ⟨S320000x8, .f32⟩
  | 120 => ⟨S320000x8, .f32⟩
  | 121 => ⟨S320000x8, .f32⟩
  | 122 => ⟨S320000x8, .f32⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_2 (i : Nat) : BufTy := match i % 128 with
  | 0 => ⟨S320000, .i32⟩
  | 1 => ⟨S320000, .i32⟩
  | 2 => ⟨S320000x1, .i32⟩
  | 3 => ⟨S320000x8x16, .f32⟩
  | 4 => ⟨S320000x8x1, .f32⟩
  | 5 => ⟨S320000x8x16, .f32⟩
  | 6 => ⟨S320000x8x16, .f32⟩
  | 7 => ⟨S_, .f32⟩
  | 8 => ⟨S10000x8x16, .f32⟩
  | 9 => ⟨S320000x1, .i32⟩
  | 10 => ⟨S10000x8x16, .f32⟩
  | 11 => ⟨S10000x128, .f32⟩
  | 12 => ⟨S1x128, .f32⟩
  | 13 => ⟨S10000x128, .f32⟩
  | 14 => ⟨S10000x128, .f32⟩
  | 15 => ⟨S_, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_cst_8 : Ref sig .tc := ⟨.hbm, 73, rfl⟩
abbrev main_call2_v0 : Ref sig .tc := ⟨.hbm, 74, rfl⟩
abbrev main_call2_v1 : Ref sig .tc := ⟨.hbm, 75, rfl⟩
abbrev main_v43 : Ref sig .tc := ⟨.hbm, 76, rfl⟩
abbrev main_c_9 : Ref sig .tc := ⟨.hbm, 77, rfl⟩
abbrev main_v44 : Ref sig .tc := ⟨.hbm, 78, rfl⟩
abbrev main_v45 : Ref sig .tc := ⟨.hbm, 79, rfl⟩
abbrev main_c_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_12 : Ref sig .tc := ⟨.hbm, 92, rfl⟩
abbrev main_v56 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_v63 : Ref sig .tc := ⟨.hbm, 102, rfl⟩
abbrev main_v64 : Ref sig .tc := ⟨.hbm, 103, rfl⟩
abbrev main_c_15 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_c_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_cst_19 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_20 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_c_22 : Ref sig .tc := ⟨.hbm, 160, rfl⟩
abbrev main_v114 : Ref sig .tc := ⟨.hbm, 161, rfl⟩
abbrev main_v115 : Ref sig .tc := ⟨.hbm, 162, rfl⟩
abbrev main_c_23 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_c_24 : Ref sig .tc := ⟨.hbm, 169, rfl⟩
abbrev main_v121 : Ref sig .tc := ⟨.hbm, 170, rfl⟩
abbrev main_v122 : Ref sig .tc := ⟨.hbm, 171, rfl⟩
abbrev main_c_25 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_26 : Ref sig .tc := ⟨.hbm, 179, rfl⟩
abbrev main_call3_cst : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_27 : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_call4_v3 : Ref sig .tc := ⟨.hbm, 199, rfl⟩
abbrev main_v138 : Ref sig .tc := ⟨.hbm, 200, rfl⟩
abbrev main_cst_28 : Ref sig .tc := ⟨.hbm, 201, rfl⟩
abbrev main_v139 : Ref sig .tc := ⟨.hbm, 202, rfl⟩
abbrev main_v140 : Ref sig .tc := ⟨.hbm, 203, rfl⟩
abbrev main_cst_29 : Ref sig .tc := ⟨.hbm, 204, rfl⟩
abbrev main_v141 : Ref sig .tc := ⟨.hbm, 205, rfl⟩
abbrev main_v142 : Ref sig .tc := ⟨.hbm, 206, rfl⟩
abbrev main_cst_30 : Ref sig .tc := ⟨.hbm, 207, rfl⟩
abbrev main_call5_v0 : Ref sig .tc := ⟨.hbm, 208, rfl⟩
abbrev main_call5_v1 : Ref sig .tc := ⟨.hbm, 209, rfl⟩
abbrev main_v143 : Ref sig .tc := ⟨.hbm, 210, rfl⟩
abbrev main_c_31 : Ref sig .tc := ⟨.hbm, 211, rfl⟩
abbrev main_v144 : Ref sig .tc := ⟨.hbm, 212, rfl⟩
abbrev main_v145 : Ref sig .tc := ⟨.hbm, 213, rfl⟩
abbrev main_c_32 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_cst_33 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_c_34 : Ref sig .tc := ⟨.hbm, 226, rfl⟩
abbrev main_v156 : Ref sig .tc := ⟨.hbm, 227, rfl⟩
abbrev main_v157 : Ref sig .tc := ⟨.hbm, 228, rfl⟩
abbrev main_c_35 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_c_36 : Ref sig .tc := ⟨.hbm, 235, rfl⟩
abbrev main_v163 : Ref sig .tc := ⟨.hbm, 236, rfl⟩
abbrev main_v164 : Ref sig .tc := ⟨.hbm, 237, rfl⟩
abbrev main_c_37 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_cst_38 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_c_39 : Ref sig .tc := ⟨.hbm, 251, rfl⟩
abbrev main_v176 : Ref sig .tc := ⟨.hbm, 252, rfl⟩
abbrev main_v177 : Ref sig .tc := ⟨.hbm, 253, rfl⟩
abbrev main_c_40 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_cst_41 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_cst_42 : Ref sig .tc := ⟨.hbm, 271, rfl⟩
abbrev main_v193 : Ref sig .tc := ⟨.hbm, 272, rfl⟩
abbrev main_v194 : Ref sig .tc := ⟨.hbm, 273, rfl⟩
abbrev main_cst_43 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩

abbrev nD : Nat := 1
abbrev τ : Topo := Topo.v7x

variable {F : FTy → Type} [FloatOps F]
-- ==== Proof.Frames.lean ====
/- The frame claims of the three programs, at what each claim states: every weakly fair execution ends, no access
   faults, every argument array ends as it was launched and every semaphore counter ends at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The frame of the kernel on machine words. -/
theorem kernel_frame : Cert.quiescent_Kernel (hKernel := Cert.Kernel.Gen.facts) := fun m g _ => Cert.Kernel.Gen.frame m g

/-- The frame of the kernel over the extended reals. -/
theorem kernelIdeal_frame : Cert.quiescent_KernelIdeal (hKernelIdeal := Cert.KernelIdeal.Gen.facts) :=
  fun m g _ => Cert.KernelIdeal.Gen.frame m g

/-- The frame of the reference: its run leaves the arguments as they were, and it has no semaphore. -/
theorem reference_frame : Cert.quiescent_ReferenceIdeal (hReferenceIdeal := Cert.ReferenceIdeal.Gen.facts) :=
  fun m g _ => (θ_run _ _ _).mono
    (fun r h => ⟨fun c => (h c).2, sem_eq_zero_of_no_sems (by decide) r.2⟩)
    (Cert.ReferenceIdeal.Value.run m g)

end Cert.Proof

end
-- ==== Proof.KernelRun.lean ====
/- The whole run of the kernel over any float values, with its result buffer: every buffer ends at the contents the
   generated fold over the run's segments gives it (`W4`), so the result buffer does. -/
module

public import proofs.«01_k».proof.Proof.Gen.KernelIdeal.Frame

@[expose] public section

set_option maxRecDepth 16384

noncomputable section

namespace Cert.Proof.KernelRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each buffer that outlives it at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The run as the value claim reads it: the result buffer at the last boundary's contents, the arguments as launched. -/
theorem run : θ_run defs (onTc (τ := τ) (main (F := F))) ⟨m, fun _ => 0, ρ⟩ (fun r => ∀ c : Dev nD,
      r.2.mem ((c.tc : Thread nD τ).loc main_v167) = W4 m ρ c main_v167
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v167 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c)⟩) (run_all m ρ)

end Cert.Proof.KernelRun

end
-- ==== Proof.Regions.lean ====
/- What the kernel's two custom calls leave in their result arrays, as functions of the arrays they find: the first
   writes, per direction, the projected features (`hAll`) and their attention scores (`aAll`), one grid point per
   direction; the second the mean of the two directions plus the bias (`comb`), at its one grid point. At any float values. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Proof.Regions

open Cert.KernelIdeal Cert.KernelIdeal.Gen Idealize.ShloMosaic Idealize.ShloMosaic.TcCoe Idealize.SL Idealize.SL.Sem
open Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Direction `d`'s block of the stacked weights. -/
def wBlk (w : Vec F S2x128x128 .f32) (d : Fin 2) : Vec F S1x128x128 .f32 := fun y => w (ix3 d (y 1) (y 2))
/-- Direction `d`'s block of the stacked attention matrices. -/
def cBlk (a : Vec F S2x128x16 .f32) (d : Fin 2) : Vec F S1x128x16 .f32 := fun y => a (ix3 d (y 1) (y 2))

/-- The projected features of both directions. -/
def hAll (x : Vec F S10000x128 .f32) (w : Vec F S2x128x128 .f32) : Vec F S2x10000x128 .f32 :=
  fun i => k0_pay2 x (wBlk w (i 0)) (ix3 (0 : Fin 1) (i 1) (i 2))
/-- The attention scores of both directions. -/
def aAll (x : Vec F S10000x128 .f32) (w : Vec F S2x128x128 .f32) (a : Vec F S2x128x16 .f32) : Vec F S2x10000x16 .f32 :=
  fun i => k0_pay3 x (wBlk w (i 0)) (cBlk a (i 0)) (ix3 (0 : Fin 1) (i 1) (i 2))

variable (V : (c : Dev nD) → (b : Ref sig .tc) → Buf (Elt F) ((c : Thread nD τ).loc b))

/-! ## The first call: block indices -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The first call has two grid points. -/
theorem n0 : cfg0.N = 2 := by decide +kernel

/-- The direction of a grid point. -/
def dirOf (t : Fin cfg0.N) : Fin 2 := t.cast n0

theorem emb0 (t : Fin cfg0.N) (j : S10000x128.Idx) : ((cfg0.win 0).blk t).view.emb j = j := by
  obtain ⟨e0, e1⟩ := idx0 t
  funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega
theorem emb1 (t : Fin cfg0.N) (j : S1x128x128.Idx) : ((cfg0.win 1).blk t).view.emb j = ix3 (dirOf t) (j 1) (j 2) := by
  obtain ⟨e0, e1, e2⟩ := idx1 t
  have hj : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 128 + 1 * (j 1).val = (j 1).val; omega
  | ⟨2, _⟩ => show win0_1.index t (2 : Fin 3) * 128 + 1 * (j 2).val = (j 2).val; omega
theorem emb2 (t : Fin cfg0.N) (j : S1x128x16.Idx) : ((cfg0.win 2).blk t).view.emb j = ix3 (dirOf t) (j 1) (j 2) := by
  obtain ⟨e0, e1, e2⟩ := idx2 t
  have hj : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 128 + 1 * (j 1).val = (j 1).val; omega
  | ⟨2, _⟩ => show win0_2.index t (2 : Fin 3) * 16 + 1 * (j 2).val = (j 2).val; omega
theorem emb3 (t : Fin cfg0.N) (j : S1x10000x128.Idx) : ((cfg0.win 3).blk t).view.emb j = ix3 (dirOf t) (j 1) (j 2) := by
  obtain ⟨e0, e1, e2⟩ := idx3 t
  have hj : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 10000 + 1 * (j 1).val = (j 1).val; omega
  | ⟨2, _⟩ => show win0_3.index t (2 : Fin 3) * 128 + 1 * (j 2).val = (j 2).val; omega
theorem emb4 (t : Fin cfg0.N) (j : S1x10000x16.Idx) : ((cfg0.win 4).blk t).view.emb j = ix3 (dirOf t) (j 1) (j 2) := by
  obtain ⟨e0, e1, e2⟩ := idx4 t
  have hj : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 10000 + 1 * (j 1).val = (j 1).val; omega
  | ⟨2, _⟩ => show win0_4.index t (2 : Fin 3) * 16 + 1 * (j 2).val = (j 2).val; omega

theorem iblk0_0 (c : Dev nD) (t : Fin cfg0.N) : iblk0 V c 0 t = V c main_arg0 := by
  funext j; show V c main_arg0 (((cfg0.win 0).blk t).view.emb j) = V c main_arg0 j; rw [emb0]
theorem iblk0_1 (c : Dev nD) (t : Fin cfg0.N) : iblk0 V c 1 t = wBlk (V c main_v2) (dirOf t) := by
  funext j; show V c main_v2 (((cfg0.win 1).blk t).view.emb j) = V c main_v2 (ix3 (dirOf t) (j 1) (j 2)); rw [emb1]; rfl
theorem iblk0_2 (c : Dev nD) (t : Fin cfg0.N) : iblk0 V c 2 t = cBlk (V c main_v41) (dirOf t) := by
  funext j; show V c main_v41 (((cfg0.win 2).blk t).view.emb j) = V c main_v41 (ix3 (dirOf t) (j 1) (j 2)); rw [emb2]; rfl

theorem flushed3 (c : Dev nD) (t : Fin cfg0.N) :
    (dat0 V c).flushed 3 t = ((cfg0.win 3).blk t).view.read (Elt F) (hAll (V c main_arg0) (V c main_v2)) := by
  show (cfg0.win 3).cut (grid0.coords t) ((dat0 V c).after 3 t) = _
  rw [after0_3, iblk0_0, iblk0_1, iblk0_2]
  unfold out0_3
  rw [View.canon_unit_zero hz3, View.ld_unit_zero hz2, View.ld_unit_zero hz3]
  funext j
  show k0_pay2 (V c main_arg0) (wBlk (V c main_v2) (dirOf t)) j
    = hAll (V c main_arg0) (V c main_v2) (((cfg0.win 3).blk t).view.emb j)
  rw [emb3]
  show _ = k0_pay2 (V c main_arg0) (wBlk (V c main_v2) (dirOf t)) (ix3 (0 : Fin 1) (j 1) (j 2))
  congr 1
  funext a
  match a with
  | ⟨0, _⟩ => exact Fin.ext (by have hj : (j 0).val < 1 := (j 0).isLt; show (j 0).val = 0; omega)
  | ⟨1, _⟩ => rfl
  | ⟨2, _⟩ => rfl
theorem flushed4 (c : Dev nD) (t : Fin cfg0.N) :
    (dat0 V c).flushed 4 t = ((cfg0.win 4).blk t).view.read (Elt F) (aAll (V c main_arg0) (V c main_v2) (V c main_v41)) := by
  show (cfg0.win 4).cut (grid0.coords t) ((dat0 V c).after 4 t) = _
  rw [after0_4, iblk0_0, iblk0_1, iblk0_2]
  unfold out0_4
  rw [View.canon_unit_zero hz3, View.ld_unit_zero hz2, View.ld_unit_zero hz3, View.ld_unit_zero hz3]
  funext j
  show k0_pay3 (V c main_arg0) (wBlk (V c main_v2) (dirOf t)) (cBlk (V c main_v41) (dirOf t)) j
    = aAll (V c main_arg0) (V c main_v2) (V c main_v41) (((cfg0.win 4).blk t).view.emb j)
  rw [emb4]
  show _ = k0_pay3 (V c main_arg0) (wBlk (V c main_v2) (dirOf t)) (cBlk (V c main_v41) (dirOf t)) (ix3 (0 : Fin 1) (j 1) (j 2))
  congr 1
  funext a
  match a with
  | ⟨0, _⟩ => exact Fin.ext (by have hj : (j 0).val < 1 := (j 0).isLt; show (j 0).val = 0; omega)
  | ⟨1, _⟩ => rfl
  | ⟨2, _⟩ => rfl

theorem covered3 (i : S2x10000x128.Idx) :
    ∃ t : Fin cfg0.N, (cfg0.win 3).flush t = true ∧ i ∈ ((cfg0.win 3).blk t).view.set := by
  refine ⟨(i 0).cast n0.symm, flush0_3 _, ?_⟩
  have h := ((cfg0.win 3).blk ((i 0).cast n0.symm)).view.emb_mem_set (ix3 (0 : Fin 1) (i 1) (i 2))
  rw [emb3] at h
  have e : (ix3 (dirOf ((i 0).cast n0.symm)) (i 1) (i 2) : S2x10000x128.Idx) = i := (eq_ix3 i).symm
  exact e ▸ h
theorem covered4 (i : S2x10000x16.Idx) :
    ∃ t : Fin cfg0.N, (cfg0.win 4).flush t = true ∧ i ∈ ((cfg0.win 4).blk t).view.set := by
  refine ⟨(i 0).cast n0.symm, flush0_4 _, ?_⟩
  have h := ((cfg0.win 4).blk ((i 0).cast n0.symm)).view.emb_mem_set (ix3 (0 : Fin 1) (i 1) (i 2))
  rw [emb4] at h
  have e : (ix3 (dirOf ((i 0).cast n0.symm)) (i 1) (i 2) : S2x10000x16.Idx) = i := (eq_ix3 i).symm
  exact e ▸ h

/-- The first call's first result array: the projected features of both directions. -/
theorem arr0_3 (c : Dev nD) : (dat0 V c).arrAt 3 cfg0.N = hAll (V c main_arg0) (V c main_v2) :=
  (dat0 V c).arrAt_eq_of_cover 3 _ (fun t _ => flushed3 V c t) covered3
/-- The first call's second result array: the attention scores of both directions. -/
theorem arr0_4 (c : Dev nD) : (dat0 V c).arrAt 4 cfg0.N = aAll (V c main_arg0) (V c main_v2) (V c main_v41) :=
  (dat0 V c).arrAt_eq_of_cover 4 _ (fun t _ => flushed4 V c t) covered4

/-! ## The second call -/

theorem jdx0 : ∀ t : Fin cfg1.N, win1_0.index t (0 : Fin 2) = 0 ∧ win1_0.index t (1 : Fin 2) = 0 :=
  (by decide +kernel : ∀ t : Fin grid1.N, _)
theorem jdx1 : ∀ t : Fin cfg1.N, win1_1.index t (0 : Fin 2) = 0 ∧ win1_1.index t (1 : Fin 2) = 0 :=
  (by decide +kernel : ∀ t : Fin grid1.N, _)
theorem jdx2 : ∀ t : Fin cfg1.N, win1_2.index t (0 : Fin 2) = 0 ∧ win1_2.index t (1 : Fin 2) = 0 :=
  (by decide +kernel : ∀ t : Fin grid1.N, _)
theorem jdx3 : ∀ t : Fin cfg1.N, win1_3.index t (0 : Fin 2) = 0 ∧ win1_3.index t (1 : Fin 2) = 0 :=
  (by decide +kernel : ∀ t : Fin grid1.N, _)

theorem fmb0 (t : Fin cfg1.N) (j : S10000x128.Idx) : ((cfg1.win 0).blk t).view.emb j = j := by
  obtain ⟨e0, e1⟩ := jdx0 t
  funext a; apply Fin.ext
  match a with
  | ⟨0, _⟩ => show win1_0.index t (0 : Fin 2) * 10000 + 1 * (j 0).val = (j 0).val; omega
  | ⟨1, _⟩ => show win1_0.index t (1 : Fin 2) * 128 + 1 * (j 1).val = (j 1).val; omega
theorem fmb1 (t : Fin cfg1.N) (j : S10000x128.Idx) : ((cfg1.win 1).blk t).view.emb j = j := by
  obtain ⟨e0, e1⟩ := jdx1 t
  funext a; apply Fin.ext
  match a with
  | ⟨0, _⟩ => show win1_1.index t (0 : Fin 2) * 10000 + 1 * (j 0).val = (j 0).val; omega
  | ⟨1, _⟩ => show win1_1.index t (1 : Fin 2) * 128 + 1 * (j 1).val = (j 1).val; omega
theorem fmb2 (t : Fin cfg1.N) (j : S1x128.Idx) : ((cfg1.win 2).blk t).view.emb j = j := by
  obtain ⟨e0, e1⟩ := jdx2 t
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega
theorem fmb3 (t : Fin cfg1.N) (j : S10000x128.Idx) : ((cfg1.win 3).blk t).view.emb j = j := by
  obtain ⟨e0, e1⟩ := jdx3 t
  funext a; apply Fin.ext
  match a with
  | ⟨0, _⟩ => show win1_3.index t (0 : Fin 2) * 10000 + 1 * (j 0).val = (j 0).val; omega
  | ⟨1, _⟩ => show win1_3.index t (1 : Fin 2) * 128 + 1 * (j 1).val = (j 1).val; omega

theorem iblk1_0 (c : Dev nD) (t : Fin cfg1.N) : iblk1 V c 0 t = V c main_v103 := by
  funext j; show V c main_v103 (((cfg1.win 0).blk t).view.emb j) = V c main_v103 j; rw [fmb0]
theorem iblk1_1 (c : Dev nD) (t : Fin cfg1.N) : iblk1 V c 1 t = V c main_v160 := by
  funext j; show V c main_v160 (((cfg1.win 1).blk t).view.emb j) = V c main_v160 j; rw [fmb1]
theorem iblk1_2 (c : Dev nD) (t : Fin cfg1.N) : iblk1 V c 2 t = V c main_v166 := by
  funext j; show V c main_v166 (((cfg1.win 2).blk t).view.emb j) = V c main_v166 j; rw [fmb2]

theorem flushedOut (c : Dev nD) (t : Fin cfg1.N) :
    (dat1 V c).flushed 3 t
      = ((cfg1.win 3).blk t).view.read (Elt F) (k1_pay1 (V c main_v103) (V c main_v160) (V c main_v166)) := by
  show (cfg1.win 3).cut (grid1.coords t) ((dat1 V c).after 3 t) = _
  rw [after1_3, iblk1_0, iblk1_1, iblk1_2]
  unfold out1_3
  rw [View.canon_unit_zero hz2, View.ld_unit_zero hz2, View.ld_unit_zero hz2, View.ld_unit_zero hz2]
  funext j
  show k1_pay1 (V c main_v103) (V c main_v160) (V c main_v166) j
    = k1_pay1 (V c main_v103) (V c main_v160) (V c main_v166) (((cfg1.win 3).blk t).view.emb j)
  rw [fmb3]

theorem coveredOut (i : S10000x128.Idx) :
    ∃ t : Fin cfg1.N, (cfg1.win 3).flush t = true ∧ i ∈ ((cfg1.win 3).blk t).view.set :=
  ⟨(⟨0, by decide⟩ : Fin cfg1.N), flush1_3 _, by
    have h := ((cfg1.win 3).blk (⟨0, by decide⟩ : Fin cfg1.N)).view.emb_mem_set i; rwa [fmb3] at h⟩

/-- The second call's result array: the mean of the two directions plus the bias row. -/
theorem arr1_3 (c : Dev nD) :
    (dat1 V c).arrAt 3 cfg1.N = k1_pay1 (V c main_v103) (V c main_v160) (V c main_v166) :=
  (dat1 V c).arrAt_eq_of_cover 3 _ (fun t _ => flushedOut V c t) coveredOut

end Cert.Proof.Regions

end
-- ==== Proof.HostLine.lean ====
/- The kernel's host operations between its two custom calls, at any float values: for each direction the attention
   scores of the edges, the normalizing sums over each node's incoming edges, the weights, and the weighted sums of the
   neighbours' features; then the bias row. The stretch of 156 operations is cut into pieces; each piece is read at
   the buffers later pieces need, and the readings are chained. -/
module

public import proofs.«01_k».proof.Proof.Gen.KernelIdeal.Frame
public import Idealize.ShloMosaic.Lib.Claim

@[expose] public section

set_option maxRecDepth 16384

noncomputable section

namespace Cert.Proof.HostLine

open Cert.KernelIdeal Cert.KernelIdeal.Gen Idealize.ShloMosaic Idealize.ShloMosaic.TcCoe Idealize.ShloMosaic.StableHlo

variable {F : FTy → Type} [FloatOps F]

/-! ## One direction, stage by stage -/

/-- A node index as the program wraps it: a negative one counts from the end. -/
def wrapped (v : Vec F S320000 .i32) : Vec F S320000 .i32 :=
  select (cmpi .slt v (broadcastInDim S320000 ![] bcast_S_S320000 (constantI S_ 32 0#32)))
    (addi v (broadcastInDim S320000 ![] bcast_S_S320000 (constantI S_ 32 10000#32))) v
/-- A list of words as a one-column table. -/
def column (v : Vec F S320000 .i32) : Vec F S320000x1 .i32 := broadcastInDim S320000x1 ![0] bcast_S320000_S320000x1_0 v
/-- One word in every row of a one-column table. -/
def constCol (n : BitVec 32) : Vec F S320000x1 .i32 :=
  broadcastInDim S320000x1 ![] bcast_S_S320000x1 (constantI S_ 32 n)
/-- Two columns side by side. -/
def pairCol (a b : Vec F S320000x1 .i32) : Vec F S320000x2 .i32 :=
  concatenate S320000x2 1 [⟨S320000x1, a⟩, ⟨S320000x1, b⟩] concatenates_S320000x1_S320000x1_S320000x2_d1
/-- Eight scores per edge, read from the score table at the given row and first column. -/
def pick (ac : Vec F S10000x16 .f32) (i : Vec F S320000x2 .i32) : Vec F S320000x8 .f32 :=
  Host.gather gather_S10000x16_S320000x2_S320000x8_1_0_n_n_01_1_18 ac i
/-- The exponential of the leaky rectification of the two picked scores' sum. -/
def expScore (a b : Vec F S320000x8 .f32) : Vec F S320000x8 .f32 :=
  Host.exp (maximumf (addf a b)
    (mulf (broadcastInDim S320000x8 ![] bcast_S_S320000x8 (constant S_ .f32 0x3E4CCCCD#32)) (addf a b)))
/-- One over the guarded sum of the exponentials into each node. -/
def recip (ex : Vec F S320000x8 .f32) (dst : Vec F S320000 .i32) : Vec F S10000x8 .f32 :=
  Host.divf (broadcastInDim S10000x8 ![] bcast_S_S10000x8 (constant S_ .f32 0x3F800000#32))
    (addf (Host.scatterAdd scatter_S10000x8_S320000x1_S320000x8_1_0_0_1
        (broadcastInDim S10000x8 ![] bcast_S_S10000x8 (constant S_ .f32 0x00000000#32)) (column dst) ex)
      (broadcastInDim S10000x8 ![] bcast_S_S10000x8 (constant S_ .f32 0x24E69595#32)))
/-- The edge weights. -/
def weight (ex : Vec F S320000x8 .f32) (r : Vec F S10000x8 .f32) (dst : Vec F S320000 .i32) : Vec F S320000x8 .f32 :=
  mulf ex (Host.gather gather_S10000x8_S320000x1_S320000x8_1_0_n_n_0_1_18 r (column (wrapped dst)))
/-- The weighted sum of the source features into each node. -/
def collect (h : Vec F S10000x128 .f32) (al : Vec F S320000x8 .f32) (src dst : Vec F S320000 .i32) : Vec F S10000x128 .f32 :=
  Host.scatterAdd scatter_S10000x128_S320000x1_S320000x128_1_0_0_1
    (broadcastInDim S10000x128 ![] bcast_S_S10000x128 (constant S_ .f32 0x00000000#32)) (column dst)
    (shapeCast S320000x128
      (mulf
        (shapeCast S320000x8x16
          (Host.gather gather_S10000x128_S320000x1_S320000x128_1_0_n_n_0_1_1128 h (column (wrapped src)))
          shapeCasts_S320000x128_S320000x8x16)
        (broadcastInDim S320000x8x16 ![0, 1, 2] bcast_S320000x8x1_S320000x8x16_0_1_2
          (broadcastInDim S320000x8x1 ![0, 1] bcast_S320000x8_S320000x8x1_0_1 al)))
      shapeCasts_S320000x8x16_S320000x128)

/-- The exponentials of one direction, from its scores and the edges. -/
def dirExp (ac : Vec F S10000x16 .f32) (src dst : Vec F S320000 .i32) : Vec F S320000x8 .f32 :=
  expScore (pick ac (pairCol (column (wrapped src)) (constCol 0#32))) (pick ac (pairCol (column (wrapped dst)) (constCol 8#32)))
/-- One direction: the weighted sums, from its features, its scores and the edges. -/
def dirOut (h : Vec F S10000x128 .f32) (ac : Vec F S10000x16 .f32) (src dst : Vec F S320000 .i32) : Vec F S10000x128 .f32 :=
  collect h (weight (dirExp ac src dst) (recip (dirExp ac src dst) dst) dst) src dst

/-- A row of the edge table. -/
def srcOf (e : Vec F S2x320000 .i32) : Vec F S320000 .i32 :=
  shapeCast S320000 (extractStridedSlice S1x320000 ![0, 0] e slices_S2x320000_S1x320000_0_0) shapeCasts_S1x320000_S320000
/-- The other row of the edge table. -/
def dstOf (e : Vec F S2x320000 .i32) : Vec F S320000 .i32 :=
  shapeCast S320000 (extractStridedSlice S1x320000 ![1, 0] e slices_S2x320000_S1x320000_1_0) shapeCasts_S1x320000_S320000
/-- The first direction's features. -/
def h0Of (x : Vec F S2x10000x128 .f32) : Vec F S10000x128 .f32 :=
  shapeCast S10000x128 (extractStridedSlice S1x10000x128 ![0, 0, 0] x slices_S2x10000x128_S1x10000x128_0_0_0)
    shapeCasts_S1x10000x128_S10000x128
/-- The second direction's features. -/
def h1Of (x : Vec F S2x10000x128 .f32) : Vec F S10000x128 .f32 :=
  shapeCast S10000x128 (extractStridedSlice S1x10000x128 ![1, 0, 0] x slices_S2x10000x128_S1x10000x128_1_0_0)
    shapeCasts_S1x10000x128_S10000x128
/-- The first direction's scores. -/
def a0Of (x : Vec F S2x10000x16 .f32) : Vec F S10000x16 .f32 :=
  shapeCast S10000x16 (extractStridedSlice S1x10000x16 ![0, 0, 0] x slices_S2x10000x16_S1x10000x16_0_0_0)
    shapeCasts_S1x10000x16_S10000x16
/-- The second direction's scores. -/
def a1Of (x : Vec F S2x10000x16 .f32) : Vec F S10000x16 .f32 :=
  shapeCast S10000x16 (extractStridedSlice S1x10000x16 ![1, 0, 0] x slices_S2x10000x16_S1x10000x16_1_0_0)
    shapeCasts_S1x10000x16_S10000x16
/-- The bias row: the mean of the two biases. -/
def biasRow (b1 b2 : Vec F S128 .f32) : Vec F S1x128 .f32 :=
  shapeCast S1x128
    (addf (mulf (broadcastInDim S128 ![] bcast_S_S128 (constant S_ .f32 0x3F000000#32)) b1)
      (mulf (broadcastInDim S128 ![] bcast_S_S128 (constant S_ .f32 0x3F000000#32)) b2)) shapeCasts_S128_S1x128

/-! ## The pieces of the stretch -/

/-- Operations 0 to 17 of the stretch. -/
def opsA : List (HloOp τ sig (Elt F)) := (hostOps1.drop 0).take 18

/-- Operations 18 to 29 of the stretch. -/
def opsB : List (HloOp τ sig (Elt F)) := (hostOps1.drop 18).take 12

/-- Operations 30 to 37 of the stretch. -/
def opsC : List (HloOp τ sig (Elt F)) := (hostOps1.drop 30).take 8

/-- Operations 38 to 47 of the stretch. -/
def opsD : List (HloOp τ sig (Elt F)) := (hostOps1.drop 38).take 10

/-- Operations 48 to 57 of the stretch. -/
def opsE : List (HloOp τ sig (Elt F)) := (hostOps1.drop 48).take 10

/-- Operations 58 to 75 of the stretch. -/
def opsG : List (HloOp τ sig (Elt F)) := (hostOps1.drop 58).take 18

/-- Operations 76 to 89 of the stretch. -/
def opsA2 : List (HloOp τ sig (Elt F)) := (hostOps1.drop 76).take 14

/-- Operations 90 to 101 of the stretch. -/
def opsB2 : List (HloOp τ sig (Elt F)) := (hostOps1.drop 90).take 12

/-- Operations 102 to 109 of the stretch. -/
def opsC2 : List (HloOp τ sig (Elt F)) := (hostOps1.drop 102).take 8

/-- Operations 110 to 119 of the stretch. -/
def opsD2 : List (HloOp τ sig (Elt F)) := (hostOps1.drop 110).take 10

/-- Operations 120 to 129 of the stretch. -/
def opsE2 : List (HloOp τ sig (Elt F)) := (hostOps1.drop 120).take 10

/-- Operations 130 to 147 of the stretch. -/
def opsG2 : List (HloOp τ sig (Elt F)) := (hostOps1.drop 130).take 18

/-- Operations 148 to 155 of the stretch. -/
def opsT : List (HloOp τ sig (Elt F)) := (hostOps1.drop 148).take 8

set_option maxHeartbeats 40000000 in
/-- The stretch is its pieces in order. -/
theorem ops_split : (hostOps1 : List (HloOp τ sig (Elt F))) = opsA ++ (opsB ++ (opsC ++ (opsD ++ (opsE ++ (opsG ++ (opsA2 ++ (opsB2 ++ (opsC2 ++ (opsD2 ++ (opsE2 ++ (opsG2 ++ (opsT)))))))))))) := rfl

variable (V : Valuation τ sig (Elt F))

set_option maxHeartbeats 4000000 in
theorem A_v44 : after (opsA : List (HloOp τ sig (Elt F))) V (no_index (Proc.devRef .tc main_v44)) = srcOf (V (Proc.devRef .tc main_arg1)) := by
  simp only [opsA, hostOps1, List.drop_succ_cons, List.drop_zero, List.take_succ_cons, List.take_zero]
  after_results_simp
  try rfl

set_option maxHeartbeats 4000000 in
theorem A_v46 : after (opsA : List (HloOp τ sig (Elt F))) V (no_index (Proc.devRef .tc main_v46)) = dstOf (V (Proc.devRef .tc main_arg1)) := by
  simp only [opsA, hostOps1, List.drop_succ_cons, List.drop_zero, List.take_succ_cons, List.take_zero]
  after_results_simp
  try rfl

set_option maxHeartbeats 4000000 in
theorem A_v48 : after (opsA : List (HloOp τ sig (Elt F))) V (no_index (Proc.devRef .tc main_v48)) = h0Of (V (Proc.devRef .tc main_v42_0)) := by
  simp only [opsA, hostOps1, List.drop_succ_cons, List.drop_zero, List.take_succ_cons, List.take_zero]
  after_results_simp
  try rfl

set_option maxHeartbeats 4000000 in
theorem A_v50 : after (opsA : List (HloOp τ sig (Elt F))) V (no_index (Proc.devRef .tc main_v50)) = a0Of (V (Proc.devRef .tc main_v42_1)) := by
  simp only [opsA, hostOps1, List.drop_succ_cons, List.drop_zero, List.take_succ_cons, List.take_zero]
  after_results_simp
  try rfl

set_option maxHeartbeats 4000000 in
theorem A_v56 : after (opsA : List (HloOp τ sig (Elt F))) V (no_index (Proc.devRef .tc main_v56)) = column (wrapped (srcOf (V (Proc.devRef .tc main_arg1)))) := by
  simp only [opsA, hostOps1, List.drop_succ_cons, List.drop_zero, List.take_succ_cons, List.take_zero]
  after_results_simp
  try rfl

set_option maxHeartbeats 4000000 in
theorem A_v57 : after (opsA : List (HloOp τ sig (Elt F))) V (no_index (Proc.devRef .tc main_v57)) = constCol 0#32 := by
  simp only [opsA, hostOps1, List.drop_succ_cons, List.drop_zero, List.take_succ_cons, List.take_zero]
  after_results_simp
  try rfl

set_option maxHeartbeats 4000000 in
theorem A_v42_0 : after (opsA : List (HloOp τ sig (Elt F))) V (no_index (Proc.devRef .tc main_v42_0)) = V (Proc.devRef .tc main_v42_0) := by
  simp only [opsA, hostOps1, List.drop_succ_cons, List.drop_zero, List.take_succ_cons, List.take_zero]
  after_results_simp
  try rfl

set_option maxHeartbeats 4000000 in
theorem A_v42_1 : after (opsA : List (HloOp τ sig (Elt F))) V (no_index (Proc.devRef .tc main_v42_1)) = V (Proc.devRef .tc main_v42_1) := by
  simp only [opsA, hostOps1, List.drop_succ_cons, List.drop_zero, List.take_succ_cons, List.take_zero]
  after_results_simp
  try rfl

set_option maxHeartbeats 4000000 in
theorem A_arg5 : after (opsA : List (HloOp τ sig (Elt F))) V (no_index (Proc.devRef .tc main_arg5)) = V (Proc.devRef .tc main_arg5) := by
  simp only [opsA, hostOps1, List.drop_succ_cons, List.drop_zero, List.take_succ_cons, List.take_zero]
  after_results_simp
  try rfl

set_option maxHeartbeats 4000000 in
theorem A_arg9 : after (opsA : List (HloOp τ sig (Elt F))) V (no_index (Proc.devRef .tc main_arg9)) = V (Proc.devRef .tc main_arg9) := by
  simp only [opsA, hostOps1, List.drop_succ_cons, List.drop_zero, List.take_succ_cons, List.take_zero]
  after_results_simp
  try rfl

set_option maxHeartbeats 4000000 in
theorem B_v59 : after (opsB : List (HloOp τ sig (Elt F))) V (no_index (Proc.devRef .tc main_v59)) = pick (V (Proc.devRef .tc main_v50)) (pairCol (V (Proc.devRef .tc main_v56)) (V (Proc.devRef .tc main_v57))) := by
  simp only [opsB, hostOps1, List.drop_succ_cons, List.drop_zero, List.take_succ_cons, List.take_zero]
  after_results_simp
  try rfl

set_option maxHeartbeats 4000000 in
theorem B_v65 : after (opsB : List (HloOp τ sig (Elt F))) V (no_index (Proc.devRef .tc main_v65)) = column (wrapped (V (Proc.devRef .tc main_v46))) := by
  simp only [opsB, hostOps1, List.drop_succ_cons, List.drop_zero, List.take_succ_cons, List.take_zero]
  after_results_simp
  try rfl

set_option maxHeartbeats 4000000 in
theorem B_v66 : after (opsB : List (HloOp τ sig (Elt F))) V (no_index (Proc.devRef .tc main_v66)) = constCol 8#32 := by
  simp only [opsB, hostOps1, List.drop_succ_cons, List.drop_zero, List.take_succ_cons, List.take_zero]
  after_results_simp
  try rfl

set_option maxHeartbeats 4000000 in
theorem B_v42_0 : after (opsB : List (HloOp τ sig (Elt F))) V (no_index (Proc.devRef .tc main_v42_0)) = V (Proc.devRef .tc main_v42_0) := by
  simp only [opsB, hostOps1, List.drop_succ_cons, List.drop_zero, List.take_succ_cons, List.take_zero]
  after_results_simp
  try rfl

set_option maxHeartbeats 4000000 in
theorem B_v42_1 : after (opsB : List (HloOp τ sig (Elt F))) V (no_index (Proc.devRef .tc main_v42_1)) = V (Proc.devRef .tc main_v42_1) := by
  simp only [opsB, hostOps1, List.drop_succ_cons, List.drop_zero, List.take_succ_cons, List.take_zero]
  after_results_simp
  try rfl

set_option maxHeartbeats 4000000 in
theorem B_arg5 : after (opsB : List (HloOp τ sig (Elt F))) V (no_index (Proc.devRef .tc main_arg5)) = V (Proc.devRef .tc main_arg5) := by
  simp only [opsB, hostOps1, List.drop_succ_cons, List.drop_zero, List.take_succ_cons, List.take_zero]
  after_results_simp
  try rfl

set_option maxHeartbeats 4000000 in
theorem B_arg9 : after (opsB : List (HloOp τ sig (Elt F))) V (no_index (Proc.devRef .tc main_arg9)) = V (Proc.devRef .tc main_arg9) := by
  simp only [opsB, hostOps1, List.drop_succ_cons, List.drop_zero, List.take_succ_cons, List.take_zero]
  after_results_simp
  try rfl

set_option maxHeartbeats 4000000 in
theorem B_v44 : after (opsB : List (HloOp τ sig (Elt F))) V (no_index (Proc.devRef .tc main_v44)) = V (Proc.devRef .tc main_v44) := by
  simp only [opsB, hostOps1, List.drop_succ_cons, List.drop_zero, List.take_succ_cons, List.take_zero]
  after_results_simp
  try rfl

set_option maxHeartbeats 4000000 in
theorem B_v46 : after (opsB : List (HloOp τ sig (Elt F))) V (no_index (Proc.devRef .tc main_v46)) = V (Proc.devRef .tc main_v46) := by
  simp only [opsB, hostOps1, List.drop_succ_cons, List.drop_zero, List.take_succ_cons, List.take_zero]
  after_results_simp
  try rfl

set_option maxHeartbeats 4000000 in
theorem B_v48 : after (opsB : List (HloOp τ sig (Elt F))) V (no_index (Proc.devRef .tc main_v48)) = V (Proc.devRef .tc main_v48) := by
  simp only [opsB, hostOps1, List.drop_succ_cons, List.drop_zero, List.take_succ_cons, List.take_zero]
  after_results_simp
  try rfl

set_option maxHeartbeats 4000000 in
theorem B_v50 : after (opsB : List (HloOp τ sig (Elt F))) V (no_index (Proc.devRef .tc main_v50)) = V (Proc.devRef .tc main_v50) := by
  simp only [opsB, hostOps1, List.drop_succ_cons, List.drop_zero, List.take_succ_cons, List.take_zero]
  after_results_simp
  try rfl

set_option maxHeartbeats 4000000 in
theorem C_v73 : after (opsC : List (HloOp τ sig (Elt F))) V (no_index (Proc.devRef .tc main_v73)) = expScore (V (Proc.devRef .tc main_v59)) (pick (V (Proc.devRef .tc main_v50)) (pairCol (V (Proc.devRef .tc main_v65)) (V (Proc.devRef .tc main_v66)))) := by
  simp only [opsC, hostOps1, List.drop_succ_cons, List.drop_zero, List.take_succ_cons, List.take_zero]
  after_results_simp
  try rfl

set_option maxHeartbeats 4000000 in
theorem C_v42_0 : after (opsC : List (HloOp τ sig (Elt F))) V (no_index (Proc.devRef .tc main_v42_0)) = V (Proc.devRef .tc main_v42_0) := by
  simp only [opsC, hostOps1, List.drop_succ_cons, List.drop_zero, List.take_succ_cons, List.take_zero]
  after_results_simp
  try rfl

set_option maxHeartbeats 4000000 in
theorem C_v42_1 : after (opsC : List (HloOp τ sig (Elt F))) V (no_index (Proc.devRef .tc main_v42_1)) = V (Proc.devRef .tc main_v42_1) := by
  simp only [opsC, hostOps1, List.drop_succ_cons, List.drop_zero, List.take_succ_cons, List.take_zero]
  after_results_simp
  try rfl

set_option maxHeartbeats 4000000 in
theorem C_arg5 : after (opsC : List (HloOp τ sig (Elt F))) V (no_index (Proc.devRef .tc main_arg5)) = V (Proc.devRef .tc main_arg5) := by
  simp only [opsC, hostOps1, List.drop_succ_cons, List.drop_zero, List.take_succ_cons, List.take_zero]
  after_results_simp
  try rfl

set_option maxHeartbeats 4000000 in
theorem C_arg9 : after (opsC : List (HloOp τ sig (Elt F))) V (no_index (Proc.devRef .tc main_arg9)) = V (Proc.devRef .tc main_arg9) := by
  simp only [opsC, hostOps1, List.drop_succ_cons, List.drop_zero, List.take_succ_cons, List.take_zero]
  after_results_simp
  try rfl

set_option maxHeartbeats 4000000 in
theorem C_v44 : after (opsC : List (HloOp τ sig (Elt F))) V (no_index (Proc.devRef .tc main_v44)) = V (Proc.devRef .tc main_v44) := by
  simp only [opsC, hostOps1, List.drop_succ_cons, List.drop_zero, List.take_succ_cons, List.take_zero]
  after_results_simp
  try rfl

set_option maxHeartbeats 4000000 in
theorem C_v46 : after (opsC : List (HloOp τ sig (Elt F))) V (no_index (Proc.devRef .tc main_v46)) = V (Proc.devRef .tc main_v46) := by
  simp only [opsC, hostOps1, List.drop_succ_cons, List.drop_zero, List.take_succ_cons, List.take_zero]
  after_results_simp
  try rfl

set_option maxHeartbeats 4000000 in
theorem C_v48 : after (opsC : List (HloOp τ sig (Elt F))) V (no_index (Proc.devRef .tc main_v48)) = V (Proc.devRef .tc main_v48) := by
  simp only [opsC, hostOps1, List.drop_succ_cons, List.drop_zero, List.take_succ_cons, List.take_zero]
  after_results_simp
  try rfl

set_option maxHeartbeats 4000000 in
theorem D_v80 : after (opsD : List (HloOp τ sig (Elt F))) V (no_index (Proc.devRef .tc main_v80)) = recip (V (Proc.devRef .tc main_v73)) (V (Proc.devRef .tc main_v46)) := by
  simp only [opsD, hostOps1, List.drop_succ_cons, List.drop_zero, List.take_succ_cons, List.take_zero]
  after_results_simp
  try rfl

set_option maxHeartbeats 4000000 in
theorem D_v42_0 : after (opsD : List (HloOp τ sig (Elt F))) V (no_index (Proc.devRef .tc main_v42_0)) = V (Proc.devRef .tc main_v42_0) := by
  simp only [opsD, hostOps1, List.drop_succ_cons, List.drop_zero, List.take_succ_cons, List.take_zero]
  after_results_simp
  try rfl

set_option maxHeartbeats 4000000 in
theorem D_v42_1 : after (opsD : List (HloOp τ sig (Elt F))) V (no_index (Proc.devRef .tc main_v42_1)) = V (Proc.devRef .tc main_v42_1) := by
  simp only [opsD, hostOps1, List.drop_succ_cons, List.drop_zero, List.take_succ_cons, List.take_zero]
  after_results_simp
  try rfl

set_option maxHeartbeats 4000000 in
theorem D_arg5 : after (opsD : List (HloOp τ sig (Elt F))) V (no_index (Proc.devRef .tc main_arg5)) = V (Proc.devRef .tc main_arg5) := by
  simp only [opsD, hostOps1, List.drop_succ_cons, List.drop_zero, List.take_succ_cons, List.take_zero]
  after_results_simp
  try rfl

set_option maxHeartbeats 4000000 in
theorem D_arg9 : after (opsD : List (HloOp τ sig (Elt F))) V (no_index (Proc.devRef .tc main_arg9)) = V (Proc.devRef .tc main_arg9) := by
  simp only [opsD, hostOps1, List.drop_succ_cons, List.drop_zero, List.take_succ_cons, List.take_zero]
  after_results_simp
  try rfl

set_option maxHeartbeats 4000000 in
theorem D_v44 : after (opsD : List (HloOp τ sig (Elt F))) V (no_index (Proc.devRef .tc main_v44)) = V (Proc.devRef .tc main_v44) := by
  simp only [opsD, hostOps1, List.drop_succ_cons, List.drop_zero, List.take_succ_cons, List.take_zero]
  after_results_simp
  try rfl

set_option maxHeartbeats 4000000 in
theorem D_v46 : after (opsD : List (HloOp τ sig (Elt F))) V (no_index (Proc.devRef .tc main_v46)) = V (Proc.devRef .tc main_v46) := by
  simp only [opsD, hostOps1, List.drop_succ_cons, List.drop_zero, List.take_succ_cons, List.take_zero]
  after_results_simp
  try rfl

set_option maxHeartbeats 4000000 in
theorem D_v48 : after (opsD : List (HloOp τ sig (Elt F))) V (no_index (Proc.devRef .tc main_v48)) = V (Proc.devRef .tc main_v48) := by
  simp only [opsD, hostOps1, List.drop_succ_cons, List.drop_zero, List.take_succ_cons, List.take_zero]
  after_results_simp
  try rfl

set_option maxHeartbeats 4000000 in
theorem D_v73 : after (opsD : List (HloOp τ sig (Elt F))) V (no_index (Proc.devRef .tc main_v73)) = V (Proc.devRef .tc main_v73) := by
  simp only [opsD, hostOps1, List.drop_succ_cons, List.drop_zero, List.take_succ_cons, List.take_zero]
  after_results_simp
  try rfl

set_option maxHeartbeats 4000000 in
theorem E_v88 : after (opsE : List (HloOp τ sig (Elt F))) V (no_index (Proc.devRef .tc main_v88)) = weight (V (Proc.devRef .tc main_v73)) (V (Proc.devRef .tc main_v80)) (V (Proc.devRef .tc main_v46)) := by
  simp only [opsE, hostOps1, List.drop_succ_cons, List.drop_zero, List.take_succ_cons, List.take_zero]
  after_results_simp
  try rfl

set_option maxHeartbeats 4000000 in
theorem E_v42_0 : after (opsE : List (HloOp τ sig (Elt F))) V (no_index (Proc.devRef .tc main_v42_0)) = V (Proc.devRef .tc main_v42_0) := by
  simp only [opsE, hostOps1, List.drop_succ_cons, List.drop_zero, List.take_succ_cons, List.take_zero]
  after_results_simp
  try rfl

set_option maxHeartbeats 4000000 in
theorem E_v42_1 : after (opsE : List (HloOp τ sig (Elt F))) V (no_index (Proc.devRef .tc main_v42_1)) = V (Proc.devRef .tc main_v42_1) := by
  simp only [opsE, hostOps1, List.drop_succ_cons, List.drop_zero, List.take_succ_cons, List.take_zero]
  after_results_simp
  try rfl

set_option maxHeartbeats 4000000 in
theorem E_arg5 : after (opsE : List (HloOp τ sig (Elt F))) V (no_index (Proc.devRef .tc main_arg5)) = V (Proc.devRef .tc main_arg5) := by
  simp only [opsE, hostOps1, List.drop_succ_cons, List.drop_zero, List.take_succ_cons, List.take_zero]
  after_results_simp
  try rfl

set_option maxHeartbeats 4000000 in
theorem E_arg9 : after (opsE : List (HloOp τ sig (Elt F))) V (no_index (Proc.devRef .tc main_arg9)) = V (Proc.devRef .tc main_arg9) := by
  simp only [opsE, hostOps1, List.drop_succ_cons, List.drop_zero, List.take_succ_cons, List.take_zero]
  after_results_simp
  try rfl

set_option maxHeartbeats 4000000 in
theorem E_v44 : after (opsE : List (HloOp τ sig (Elt F))) V (no_index (Proc.devRef .tc main_v44)) = V (Proc.devRef .tc main_v44) := by
  simp only [opsE, hostOps1, List.drop_succ_cons, List.drop_zero, List.take_succ_cons, List.take_zero]
  after_results_simp
  try rfl

set_option maxHeartbeats 4000000 in
theorem E_v46 : after (opsE : List (HloOp τ sig (Elt F))) V (no_index (Proc.devRef .tc main_v46)) = V (Proc.devRef .tc main_v46) := by
  simp only [opsE, hostOps1, List.drop_succ_cons, List.drop_zero, List.take_succ_cons, List.take_zero]
  after_results_simp
  try rfl

set_option maxHeartbeats 4000000 in
theorem E_v48 : after (opsE : List (HloOp τ sig (Elt F))) V (no_index (Proc.devRef .tc main_v48)) = V (Proc.devRef .tc main_v48) := by
  simp only [opsE, hostOps1, List.drop_succ_cons, List.drop_zero, List.take_succ_cons, List.take_zero]
  after_results_simp
  try rfl

set_option maxHeartbeats 4000000 in
theorem G_v103 : after (opsG : List (HloOp τ sig (Elt F))) V (no_index (Proc.devRef .tc main_v103)) = collect (V (Proc.devRef .tc main_v48)) (V (Proc.devRef .tc main_v88)) (V (Proc.devRef .tc main_v44)) (V (Proc.devRef .tc main_v46)) := by
  simp only [opsG, hostOps1, List.drop_succ_cons, List.drop_zero, List.take_succ_cons, List.take_zero]
  after_results_simp
  try rfl

set_option maxHeartbeats 4000000 in
theorem G_v42_0 : after (opsG : List (HloOp τ sig (Elt F))) V (no_index (Proc.devRef .tc main_v42_0)) = V (Proc.devRef .tc main_v42_0) := by
  simp only [opsG, hostOps1, List.drop_succ_cons, List.drop_zero, List.take_succ_cons, List.take_zero]
  after_results_simp
  try rfl

set_option maxHeartbeats 4000000 in
theorem G_v42_1 : after (opsG : List (HloOp τ sig (Elt F))) V (no_index (Proc.devRef .tc main_v42_1)) = V (Proc.devRef .tc main_v42_1) := by
  simp only [opsG, hostOps1, List.drop_succ_cons, List.drop_zero, List.take_succ_cons, List.take_zero]
  after_results_simp
  try rfl

set_option maxHeartbeats 4000000 in
theorem G_arg5 : after (opsG : List (HloOp τ sig (Elt F))) V (no_index (Proc.devRef .tc main_arg5)) = V (Proc.devRef .tc main_arg5) := by
  simp only [opsG, hostOps1, List.drop_succ_cons, List.drop_zero, List.take_succ_cons, List.take_zero]
  after_results_simp
  try rfl

set_option maxHeartbeats 4000000 in
theorem G_arg9 : after (opsG : List (HloOp τ sig (Elt F))) V (no_index (Proc.devRef .tc main_arg9)) = V (Proc.devRef .tc main_arg9) := by
  simp only [opsG, hostOps1, List.drop_succ_cons, List.drop_zero, List.take_succ_cons, List.take_zero]
  after_results_simp
  try rfl

set_option maxHeartbeats 4000000 in
theorem G_v44 : after (opsG : List (HloOp τ sig (Elt F))) V (no_index (Proc.devRef .tc main_v44)) = V (Proc.devRef .tc main_v44) := by
  simp only [opsG, hostOps1, List.drop_succ_cons, List.drop_zero, List.take_succ_cons, List.take_zero]
  after_results_simp
  try rfl

set_option maxHeartbeats 4000000 in
theorem G_v46 : after (opsG : List (HloOp τ sig (Elt F))) V (no_index (Proc.devRef .tc main_v46)) = V (Proc.devRef .tc main_v46) := by
  simp only [opsG, hostOps1, List.drop_succ_cons, List.drop_zero, List.take_succ_cons, List.take_zero]
  after_results_simp
  try rfl

set_option maxHeartbeats 4000000 in
theorem A2_v105 : after (opsA2 : List (HloOp τ sig (Elt F))) V (no_index (Proc.devRef .tc main_v105)) = h1Of (V (Proc.devRef .tc main_v42_0)) := by
  simp only [opsA2, hostOps1, List.drop_succ_cons, List.drop_zero, List.take_succ_cons, List.take_zero]
  after_results_simp
  try rfl

set_option maxHeartbeats 4000000 in
theorem A2_v107 : after (opsA2 : List (HloOp τ sig (Elt F))) V (no_index (Proc.devRef .tc main_v107)) = a1Of (V (Proc.devRef .tc main_v42_1)) := by
  simp only [opsA2, hostOps1, List.drop_succ_cons, List.drop_zero, List.take_succ_cons, List.take_zero]
  after_results_simp
  try rfl

set_option maxHeartbeats 4000000 in
theorem A2_v113 : after (opsA2 : List (HloOp τ sig (Elt F))) V (no_index (Proc.devRef .tc main_v113)) = column (wrapped (V (Proc.devRef .tc main_v46))) := by
  simp only [opsA2, hostOps1, List.drop_succ_cons, List.drop_zero, List.take_succ_cons, List.take_zero]
  after_results_simp
  try rfl

set_option maxHeartbeats 4000000 in
theorem A2_v114 : after (opsA2 : List (HloOp τ sig (Elt F))) V (no_index (Proc.devRef .tc main_v114)) = constCol 0#32 := by
  simp only [opsA2, hostOps1, List.drop_succ_cons, List.drop_zero, List.take_succ_cons, List.take_zero]
  after_results_simp
  try rfl

set_option maxHeartbeats 4000000 in
theorem A2_arg5 : after (opsA2 : List (HloOp τ sig (Elt F))) V (no_index (Proc.devRef .tc main_arg5)) = V (Proc.devRef .tc main_arg5) := by
  simp only [opsA2, hostOps1, List.drop_succ_cons, List.drop_zero, List.take_succ_cons, List.take_zero]
  after_results_simp
  try rfl

set_option maxHeartbeats 4000000 in
theorem A2_arg9 : after (opsA2 : List (HloOp τ sig (Elt F))) V (no_index (Proc.devRef .tc main_arg9)) = V (Proc.devRef .tc main_arg9) := by
  simp only [opsA2, hostOps1, List.drop_succ_cons, List.drop_zero, List.take_succ_cons, List.take_zero]
  after_results_simp
  try rfl

set_option maxHeartbeats 4000000 in
theorem A2_v103 : after (opsA2 : List (HloOp τ sig (Elt F))) V (no_index (Proc.devRef .tc main_v103)) = V (Proc.devRef .tc main_v103) := by
  simp only [opsA2, hostOps1, List.drop_succ_cons, List.drop_zero, List.take_succ_cons, List.take_zero]
  after_results_simp
  try rfl

set_option maxHeartbeats 4000000 in
theorem A2_v44 : after (opsA2 : List (HloOp τ sig (Elt F))) V (no_index (Proc.devRef .tc main_v44)) = V (Proc.devRef .tc main_v44) := by
  simp only [opsA2, hostOps1, List.drop_succ_cons, List.drop_zero, List.take_succ_cons, List.take_zero]
  after_results_simp
  try rfl

set_option maxHeartbeats 4000000 in
theorem A2_v46 : after (opsA2 : List (HloOp τ sig (Elt F))) V (no_index (Proc.devRef .tc main_v46)) = V (Proc.devRef .tc main_v46) := by
  simp only [opsA2, hostOps1, List.drop_succ_cons, List.drop_zero, List.take_succ_cons, List.take_zero]
  after_results_simp
  try rfl

set_option maxHeartbeats 4000000 in
theorem B2_v116 : after (opsB2 : List (HloOp τ sig (Elt F))) V (no_index (Proc.devRef .tc main_v116)) = pick (V (Proc.devRef .tc main_v107)) (pairCol (V (Proc.devRef .tc main_v113)) (V (Proc.devRef .tc main_v114))) := by
  simp only [opsB2, hostOps1, List.drop_succ_cons, List.drop_zero, List.take_succ_cons, List.take_zero]
  after_results_simp
  try rfl

set_option maxHeartbeats 4000000 in
theorem B2_v122 : after (opsB2 : List (HloOp τ sig (Elt F))) V (no_index (Proc.devRef .tc main_v122)) = column (wrapped (V (Proc.devRef .tc main_v44))) := by
  simp only [opsB2, hostOps1, List.drop_succ_cons, List.drop_zero, List.take_succ_cons, List.take_zero]
  after_results_simp
  try rfl

set_option maxHeartbeats 4000000 in
theorem B2_v123 : after (opsB2 : List (HloOp τ sig (Elt F))) V (no_index (Proc.devRef .tc main_v123)) = constCol 8#32 := by
  simp only [opsB2, hostOps1, List.drop_succ_cons, List.drop_zero, List.take_succ_cons, List.take_zero]
  after_results_simp
  try rfl

set_option maxHeartbeats 4000000 in
theorem B2_arg5 : after (opsB2 : List (HloOp τ sig (Elt F))) V (no_index (Proc.devRef .tc main_arg5)) = V (Proc.devRef .tc main_arg5) := by
  simp only [opsB2, hostOps1, List.drop_succ_cons, List.drop_zero, List.take_succ_cons, List.take_zero]
  after_results_simp
  try rfl

set_option maxHeartbeats 4000000 in
theorem B2_arg9 : after (opsB2 : List (HloOp τ sig (Elt F))) V (no_index (Proc.devRef .tc main_arg9)) = V (Proc.devRef .tc main_arg9) := by
  simp only [opsB2, hostOps1, List.drop_succ_cons, List.drop_zero, List.take_succ_cons, List.take_zero]
  after_results_simp
  try rfl

set_option maxHeartbeats 4000000 in
theorem B2_v103 : after (opsB2 : List (HloOp τ sig (Elt F))) V (no_index (Proc.devRef .tc main_v103)) = V (Proc.devRef .tc main_v103) := by
  simp only [opsB2, hostOps1, List.drop_succ_cons, List.drop_zero, List.take_succ_cons, List.take_zero]
  after_results_simp
  try rfl

set_option maxHeartbeats 4000000 in
theorem B2_v46 : after (opsB2 : List (HloOp τ sig (Elt F))) V (no_index (Proc.devRef .tc main_v46)) = V (Proc.devRef .tc main_v46) := by
  simp only [opsB2, hostOps1, List.drop_succ_cons, List.drop_zero, List.take_succ_cons, List.take_zero]
  after_results_simp
  try rfl

set_option maxHeartbeats 4000000 in
theorem B2_v44 : after (opsB2 : List (HloOp τ sig (Elt F))) V (no_index (Proc.devRef .tc main_v44)) = V (Proc.devRef .tc main_v44) := by
  simp only [opsB2, hostOps1, List.drop_succ_cons, List.drop_zero, List.take_succ_cons, List.take_zero]
  after_results_simp
  try rfl

set_option maxHeartbeats 4000000 in
theorem B2_v105 : after (opsB2 : List (HloOp τ sig (Elt F))) V (no_index (Proc.devRef .tc main_v105)) = V (Proc.devRef .tc main_v105) := by
  simp only [opsB2, hostOps1, List.drop_succ_cons, List.drop_zero, List.take_succ_cons, List.take_zero]
  after_results_simp
  try rfl

set_option maxHeartbeats 4000000 in
theorem B2_v107 : after (opsB2 : List (HloOp τ sig (Elt F))) V (no_index (Proc.devRef .tc main_v107)) = V (Proc.devRef .tc main_v107) := by
  simp only [opsB2, hostOps1, List.drop_succ_cons, List.drop_zero, List.take_succ_cons, List.take_zero]
  after_results_simp
  try rfl

set_option maxHeartbeats 4000000 in
theorem C2_v130 : after (opsC2 : List (HloOp τ sig (Elt F))) V (no_index (Proc.devRef .tc main_v130)) = expScore (V (Proc.devRef .tc main_v116)) (pick (V (Proc.devRef .tc main_v107)) (pairCol (V (Proc.devRef .tc main_v122)) (V (Proc.devRef .tc main_v123)))) := by
  simp only [opsC2, hostOps1, List.drop_succ_cons, List.drop_zero, List.take_succ_cons, List.take_zero]
  after_results_simp
  try rfl

set_option maxHeartbeats 4000000 in
theorem C2_arg5 : after (opsC2 : List (HloOp τ sig (Elt F))) V (no_index (Proc.devRef .tc main_arg5)) = V (Proc.devRef .tc main_arg5) := by
  simp only [opsC2, hostOps1, List.drop_succ_cons, List.drop_zero, List.take_succ_cons, List.take_zero]
  after_results_simp
  try rfl

set_option maxHeartbeats 4000000 in
theorem C2_arg9 : after (opsC2 : List (HloOp τ sig (Elt F))) V (no_index (Proc.devRef .tc main_arg9)) = V (Proc.devRef .tc main_arg9) := by
  simp only [opsC2, hostOps1, List.drop_succ_cons, List.drop_zero, List.take_succ_cons, List.take_zero]
  after_results_simp
  try rfl

set_option maxHeartbeats 4000000 in
theorem C2_v103 : after (opsC2 : List (HloOp τ sig (Elt F))) V (no_index (Proc.devRef .tc main_v103)) = V (Proc.devRef .tc main_v103) := by
  simp only [opsC2, hostOps1, List.drop_succ_cons, List.drop_zero, List.take_succ_cons, List.take_zero]
  after_results_simp
  try rfl

set_option maxHeartbeats 4000000 in
theorem C2_v46 : after (opsC2 : List (HloOp τ sig (Elt F))) V (no_index (Proc.devRef .tc main_v46)) = V (Proc.devRef .tc main_v46) := by
  simp only [opsC2, hostOps1, List.drop_succ_cons, List.drop_zero, List.take_succ_cons, List.take_zero]
  after_results_simp
  try rfl

set_option maxHeartbeats 4000000 in
theorem C2_v44 : after (opsC2 : List (HloOp τ sig (Elt F))) V (no_index (Proc.devRef .tc main_v44)) = V (Proc.devRef .tc main_v44) := by
  simp only [opsC2, hostOps1, List.drop_succ_cons, List.drop_zero, List.take_succ_cons, List.take_zero]
  after_results_simp
  try rfl

set_option maxHeartbeats 4000000 in
theorem C2_v105 : after (opsC2 : List (HloOp τ sig (Elt F))) V (no_index (Proc.devRef .tc main_v105)) = V (Proc.devRef .tc main_v105) := by
  simp only [opsC2, hostOps1, List.drop_succ_cons, List.drop_zero, List.take_succ_cons, List.take_zero]
  after_results_simp
  try rfl

set_option maxHeartbeats 4000000 in
theorem D2_v137 : after (opsD2 : List (HloOp τ sig (Elt F))) V (no_index (Proc.devRef .tc main_v137)) = recip (V (Proc.devRef .tc main_v130)) (V (Proc.devRef .tc main_v44)) := by
  simp only [opsD2, hostOps1, List.drop_succ_cons, List.drop_zero, List.take_succ_cons, List.take_zero]
  after_results_simp
  try rfl

set_option maxHeartbeats 4000000 in
theorem D2_arg5 : after (opsD2 : List (HloOp τ sig (Elt F))) V (no_index (Proc.devRef .tc main_arg5)) = V (Proc.devRef .tc main_arg5) := by
  simp only [opsD2, hostOps1, List.drop_succ_cons, List.drop_zero, List.take_succ_cons, List.take_zero]
  after_results_simp
  try rfl

set_option maxHeartbeats 4000000 in
theorem D2_arg9 : after (opsD2 : List (HloOp τ sig (Elt F))) V (no_index (Proc.devRef .tc main_arg9)) = V (Proc.devRef .tc main_arg9) := by
  simp only [opsD2, hostOps1, List.drop_succ_cons, List.drop_zero, List.take_succ_cons, List.take_zero]
  after_results_simp
  try rfl

set_option maxHeartbeats 4000000 in
theorem D2_v103 : after (opsD2 : List (HloOp τ sig (Elt F))) V (no_index (Proc.devRef .tc main_v103)) = V (Proc.devRef .tc main_v103) := by
  simp only [opsD2, hostOps1, List.drop_succ_cons, List.drop_zero, List.take_succ_cons, List.take_zero]
  after_results_simp
  try rfl

set_option maxHeartbeats 4000000 in
theorem D2_v46 : after (opsD2 : List (HloOp τ sig (Elt F))) V (no_index (Proc.devRef .tc main_v46)) = V (Proc.devRef .tc main_v46) := by
  simp only [opsD2, hostOps1, List.drop_succ_cons, List.drop_zero, List.take_succ_cons, List.take_zero]
  after_results_simp
  try rfl

set_option maxHeartbeats 4000000 in
theorem D2_v44 : after (opsD2 : List (HloOp τ sig (Elt F))) V (no_index (Proc.devRef .tc main_v44)) = V (Proc.devRef .tc main_v44) := by
  simp only [opsD2, hostOps1, List.drop_succ_cons, List.drop_zero, List.take_succ_cons, List.take_zero]
  after_results_simp
  try rfl

set_option maxHeartbeats 4000000 in
theorem D2_v105 : after (opsD2 : List (HloOp τ sig (Elt F))) V (no_index (Proc.devRef .tc main_v105)) = V (Proc.devRef .tc main_v105) := by
  simp only [opsD2, hostOps1, List.drop_succ_cons, List.drop_zero, List.take_succ_cons, List.take_zero]
  after_results_simp
  try rfl

set_option maxHeartbeats 4000000 in
theorem D2_v130 : after (opsD2 : List (HloOp τ sig (Elt F))) V (no_index (Proc.devRef .tc main_v130)) = V (Proc.devRef .tc main_v130) := by
  simp only [opsD2, hostOps1, List.drop_succ_cons, List.drop_zero, List.take_succ_cons, List.take_zero]
  after_results_simp
  try rfl

set_option maxHeartbeats 4000000 in
theorem E2_v145 : after (opsE2 : List (HloOp τ sig (Elt F))) V (no_index (Proc.devRef .tc main_v145)) = weight (V (Proc.devRef .tc main_v130)) (V (Proc.devRef .tc main_v137)) (V (Proc.devRef .tc main_v44)) := by
  simp only [opsE2, hostOps1, List.drop_succ_cons, List.drop_zero, List.take_succ_cons, List.take_zero]
  after_results_simp
  try rfl

set_option maxHeartbeats 4000000 in
theorem E2_arg5 : after (opsE2 : List (HloOp τ sig (Elt F))) V (no_index (Proc.devRef .tc main_arg5)) = V (Proc.devRef .tc main_arg5) := by
  simp only [opsE2, hostOps1, List.drop_succ_cons, List.drop_zero, List.take_succ_cons, List.take_zero]
  after_results_simp
  try rfl

set_option maxHeartbeats 4000000 in
theorem E2_arg9 : after (opsE2 : List (HloOp τ sig (Elt F))) V (no_index (Proc.devRef .tc main_arg9)) = V (Proc.devRef .tc main_arg9) := by
  simp only [opsE2, hostOps1, List.drop_succ_cons, List.drop_zero, List.take_succ_cons, List.take_zero]
  after_results_simp
  try rfl

set_option maxHeartbeats 4000000 in
theorem E2_v103 : after (opsE2 : List (HloOp τ sig (Elt F))) V (no_index (Proc.devRef .tc main_v103)) = V (Proc.devRef .tc main_v103) := by
  simp only [opsE2, hostOps1, List.drop_succ_cons, List.drop_zero, List.take_succ_cons, List.take_zero]
  after_results_simp
  try rfl

set_option maxHeartbeats 4000000 in
theorem E2_v46 : after (opsE2 : List (HloOp τ sig (Elt F))) V (no_index (Proc.devRef .tc main_v46)) = V (Proc.devRef .tc main_v46) := by
  simp only [opsE2, hostOps1, List.drop_succ_cons, List.drop_zero, List.take_succ_cons, List.take_zero]
  after_results_simp
  try rfl

set_option maxHeartbeats 4000000 in
theorem E2_v44 : after (opsE2 : List (HloOp τ sig (Elt F))) V (no_index (Proc.devRef .tc main_v44)) = V (Proc.devRef .tc main_v44) := by
  simp only [opsE2, hostOps1, List.drop_succ_cons, List.drop_zero, List.take_succ_cons, List.take_zero]
  after_results_simp
  try rfl

set_option maxHeartbeats 4000000 in
theorem E2_v105 : after (opsE2 : List (HloOp τ sig (Elt F))) V (no_index (Proc.devRef .tc main_v105)) = V (Proc.devRef .tc main_v105) := by
  simp only [opsE2, hostOps1, List.drop_succ_cons, List.drop_zero, List.take_succ_cons, List.take_zero]
  after_results_simp
  try rfl

set_option maxHeartbeats 4000000 in
theorem G2_v160 : after (opsG2 : List (HloOp τ sig (Elt F))) V (no_index (Proc.devRef .tc main_v160)) = collect (V (Proc.devRef .tc main_v105)) (V (Proc.devRef .tc main_v145)) (V (Proc.devRef .tc main_v46)) (V (Proc.devRef .tc main_v44)) := by
  simp only [opsG2, hostOps1, List.drop_succ_cons, List.drop_zero, List.take_succ_cons, List.take_zero]
  after_results_simp
  try rfl

set_option maxHeartbeats 4000000 in
theorem G2_arg5 : after (opsG2 : List (HloOp τ sig (Elt F))) V (no_index (Proc.devRef .tc main_arg5)) = V (Proc.devRef .tc main_arg5) := by
  simp only [opsG2, hostOps1, List.drop_succ_cons, List.drop_zero, List.take_succ_cons, List.take_zero]
  after_results_simp
  try rfl

set_option maxHeartbeats 4000000 in
theorem G2_arg9 : after (opsG2 : List (HloOp τ sig (Elt F))) V (no_index (Proc.devRef .tc main_arg9)) = V (Proc.devRef .tc main_arg9) := by
  simp only [opsG2, hostOps1, List.drop_succ_cons, List.drop_zero, List.take_succ_cons, List.take_zero]
  after_results_simp
  try rfl

set_option maxHeartbeats 4000000 in
theorem G2_v103 : after (opsG2 : List (HloOp τ sig (Elt F))) V (no_index (Proc.devRef .tc main_v103)) = V (Proc.devRef .tc main_v103) := by
  simp only [opsG2, hostOps1, List.drop_succ_cons, List.drop_zero, List.take_succ_cons, List.take_zero]
  after_results_simp
  try rfl

set_option maxHeartbeats 4000000 in
theorem T_v166 : after (opsT : List (HloOp τ sig (Elt F))) V (no_index (Proc.devRef .tc main_v166)) = biasRow (V (Proc.devRef .tc main_arg5)) (V (Proc.devRef .tc main_arg9)) := by
  simp only [opsT, hostOps1, List.drop_succ_cons, List.drop_zero, List.take_succ_cons, List.take_zero]
  after_results_simp
  try rfl

set_option maxHeartbeats 4000000 in
theorem T_v103 : after (opsT : List (HloOp τ sig (Elt F))) V (no_index (Proc.devRef .tc main_v103)) = V (Proc.devRef .tc main_v103) := by
  simp only [opsT, hostOps1, List.drop_succ_cons, List.drop_zero, List.take_succ_cons, List.take_zero]
  after_results_simp
  try rfl

set_option maxHeartbeats 4000000 in
theorem T_v160 : after (opsT : List (HloOp τ sig (Elt F))) V (no_index (Proc.devRef .tc main_v160)) = V (Proc.devRef .tc main_v160) := by
  simp only [opsT, hostOps1, List.drop_succ_cons, List.drop_zero, List.take_succ_cons, List.take_zero]
  after_results_simp
  try rfl

set_option maxHeartbeats 4000000 in
/-- What the stretch leaves of the first direction. -/
theorem line_v103 : after (hostOps1 : List (HloOp τ sig (Elt F))) V (Proc.devRef .tc main_v103) = dirOut (h0Of (V (Proc.devRef .tc main_v42_0))) (a0Of (V (Proc.devRef .tc main_v42_1))) (srcOf (V (Proc.devRef .tc main_arg1))) (dstOf (V (Proc.devRef .tc main_arg1))) := by
  rw [ops_split]
  simp only [after_append]
  simp only [A_v44, A_v46, A_v48, A_v50, A_v56, A_v57, A_v42_0, A_v42_1, A_arg5, A_arg9, B_v59, B_v65, B_v66, B_v42_0, B_v42_1, B_arg5, B_arg9, B_v44, B_v46, B_v48, B_v50, C_v73, C_v42_0, C_v42_1, C_arg5, C_arg9, C_v44, C_v46, C_v48, D_v80, D_v42_0, D_v42_1, D_arg5, D_arg9, D_v44, D_v46, D_v48, D_v73, E_v88, E_v42_0, E_v42_1, E_arg5, E_arg9, E_v44, E_v46, E_v48, G_v103, G_v42_0, G_v42_1, G_arg5, G_arg9, G_v44, G_v46, A2_v105, A2_v107, A2_v113, A2_v114, A2_arg5, A2_arg9, A2_v103, A2_v44, A2_v46, B2_v116, B2_v122, B2_v123, B2_arg5, B2_arg9, B2_v103, B2_v46, B2_v44, B2_v105, B2_v107, C2_v130, C2_arg5, C2_arg9, C2_v103, C2_v46, C2_v44, C2_v105, D2_v137, D2_arg5, D2_arg9, D2_v103, D2_v46, D2_v44, D2_v105, D2_v130, E2_v145, E2_arg5, E2_arg9, E2_v103, E2_v46, E2_v44, E2_v105, G2_v160, G2_arg5, G2_arg9, G2_v103, T_v166, T_v103, T_v160]
  try rfl

set_option maxHeartbeats 4000000 in
/-- What the stretch leaves of the second direction. -/
theorem line_v160 : after (hostOps1 : List (HloOp τ sig (Elt F))) V (Proc.devRef .tc main_v160) = dirOut (h1Of (V (Proc.devRef .tc main_v42_0))) (a1Of (V (Proc.devRef .tc main_v42_1))) (dstOf (V (Proc.devRef .tc main_arg1))) (srcOf (V (Proc.devRef .tc main_arg1))) := by
  rw [ops_split]
  simp only [after_append]
  simp only [A_v44, A_v46, A_v48, A_v50, A_v56, A_v57, A_v42_0, A_v42_1, A_arg5, A_arg9, B_v59, B_v65, B_v66, B_v42_0, B_v42_1, B_arg5, B_arg9, B_v44, B_v46, B_v48, B_v50, C_v73, C_v42_0, C_v42_1, C_arg5, C_arg9, C_v44, C_v46, C_v48, D_v80, D_v42_0, D_v42_1, D_arg5, D_arg9, D_v44, D_v46, D_v48, D_v73, E_v88, E_v42_0, E_v42_1, E_arg5, E_arg9, E_v44, E_v46, E_v48, G_v103, G_v42_0, G_v42_1, G_arg5, G_arg9, G_v44, G_v46, A2_v105, A2_v107, A2_v113, A2_v114, A2_arg5, A2_arg9, A2_v103, A2_v44, A2_v46, B2_v116, B2_v122, B2_v123, B2_arg5, B2_arg9, B2_v103, B2_v46, B2_v44, B2_v105, B2_v107, C2_v130, C2_arg5, C2_arg9, C2_v103, C2_v46, C2_v44, C2_v105, D2_v137, D2_arg5, D2_arg9, D2_v103, D2_v46, D2_v44, D2_v105, D2_v130, E2_v145, E2_arg5, E2_arg9, E2_v103, E2_v46, E2_v44, E2_v105, G2_v160, G2_arg5, G2_arg9, G2_v103, T_v166, T_v103, T_v160]
  try rfl

set_option maxHeartbeats 4000000 in
/-- What the stretch leaves of the biases. -/
theorem line_v166 : after (hostOps1 : List (HloOp τ sig (Elt F))) V (Proc.devRef .tc main_v166) = biasRow (V (Proc.devRef .tc main_arg5)) (V (Proc.devRef .tc main_arg9)) := by
  rw [ops_split]
  simp only [after_append]
  simp only [A_v44, A_v46, A_v48, A_v50, A_v56, A_v57, A_v42_0, A_v42_1, A_arg5, A_arg9, B_v59, B_v65, B_v66, B_v42_0, B_v42_1, B_arg5, B_arg9, B_v44, B_v46, B_v48, B_v50, C_v73, C_v42_0, C_v42_1, C_arg5, C_arg9, C_v44, C_v46, C_v48, D_v80, D_v42_0, D_v42_1, D_arg5, D_arg9, D_v44, D_v46, D_v48, D_v73, E_v88, E_v42_0, E_v42_1, E_arg5, E_arg9, E_v44, E_v46, E_v48, G_v103, G_v42_0, G_v42_1, G_arg5, G_arg9, G_v44, G_v46, A2_v105, A2_v107, A2_v113, A2_v114, A2_arg5, A2_arg9, A2_v103, A2_v44, A2_v46, B2_v116, B2_v122, B2_v123, B2_arg5, B2_arg9, B2_v103, B2_v46, B2_v44, B2_v105, B2_v107, C2_v130, C2_arg5, C2_arg9, C2_v103, C2_v46, C2_v44, C2_v105, D2_v137, D2_arg5, D2_arg9, D2_v103, D2_v46, D2_v44, D2_v105, D2_v130, E2_v145, E2_arg5, E2_arg9, E2_v103, E2_v46, E2_v44, E2_v105, G2_v160, G2_arg5, G2_arg9, G2_v103, T_v166, T_v103, T_v160]
  try rfl

end Cert.Proof.HostLine

end
-- ==== Proof.HostPrep.lean ====
/- The kernel's host operations before its first custom call, at any float values: the two weight matrices stacked, and
   for each direction the two attention vectors laid out as the two halves of a 128 × 16 matrix, head by head. -/
module

public import proofs.«01_k».proof.Proof.Gen.KernelIdeal.Frame
public import Idealize.ShloMosaic.Lib.Claim

@[expose] public section

set_option maxRecDepth 16384

noncomputable section

namespace Cert.Proof.HostPrep

open Cert.KernelIdeal Cert.KernelIdeal.Gen Idealize.ShloMosaic Idealize.ShloMosaic.TcCoe Idealize.ShloMosaic.StableHlo

variable {F : FTy → Type} [FloatOps F]

/-- One matrix as a stack of one. -/
def lift (a : Vec F S128x128 .f32) : Vec F S1x128x128 .f32 := broadcastInDim S1x128x128 ![1, 2] bcast_S128x128_S1x128x128_1_2 a
/-- Two matrices stacked. -/
def stackW (a b : Vec F S1x128x128 .f32) : Vec F S2x128x128 .f32 :=
  concatenate S2x128x128 0 [⟨S1x128x128, a⟩, ⟨S1x128x128, b⟩] concatenates_S1x128x128_S1x128x128_S2x128x128_d0
/-- The 8 × 8 identity, ones where the two coordinates agree. -/
def eye : Vec F S8x8 .f32 :=
  uitofp .f32 (cmpi .eq (addi (iotaInDim S8x8 32 0) (broadcastInDim S8x8 ![] bcast_S_S8x8 (constantI S_ 32 0#32))) (iotaInDim S8x8 32 1))
/-- An attention vector laid out by heads: row `16·h + k` holds the vector's entry `(h, k)` in column `h`, zero elsewhere. -/
def half (a : Vec F S8x16 .f32) : Vec F S128x8 .f32 :=
  shapeCast S128x8
    (mulf
      (broadcastInDim S8x16x8 ![0, 1, 2] bcast_S8x16x1_S8x16x8_0_1_2
        (broadcastInDim S8x16x1 ![0, 1] bcast_S8x16_S8x16x1_0_1 a))
      (broadcastInDim S8x16x8 ![0, 1, 2] bcast_S8x1x8_S8x16x8_0_1_2
        (broadcastInDim S8x1x8 ![0, 2] bcast_S8x8_S8x1x8_0_2 eye)))
    shapeCasts_S8x16x8_S128x8
/-- The two halves side by side. -/
def sides (a b : Vec F S128x8 .f32) : Vec F S128x16 .f32 :=
  concatenate S128x16 1 [⟨S128x8, a⟩, ⟨S128x8, b⟩] concatenates_S128x8_S128x8_S128x16_d1
/-- One attention matrix as a stack of one. -/
def liftC (a : Vec F S128x16 .f32) : Vec F S1x128x16 .f32 := broadcastInDim S1x128x16 ![1, 2] bcast_S128x16_S1x128x16_1_2 a
/-- Two attention matrices stacked. -/
def stackC (a b : Vec F S1x128x16 .f32) : Vec F S2x128x16 .f32 :=
  concatenate S2x128x16 0 [⟨S1x128x16, a⟩, ⟨S1x128x16, b⟩] concatenates_S1x128x16_S1x128x16_S2x128x16_d0

/-- Operations 0 to 1 of the stretch. -/
def opsA : List (HloOp τ sig (Elt F)) := (hostOps0.drop 0).take 2

/-- Operations 2 to 20 of the stretch. -/
def opsB : List (HloOp τ sig (Elt F)) := (hostOps0.drop 2).take 19

/-- Operations 21 to 39 of the stretch. -/
def opsC : List (HloOp τ sig (Elt F)) := (hostOps0.drop 21).take 19

/-- Operations 40 to 42 of the stretch. -/
def opsD : List (HloOp τ sig (Elt F)) := (hostOps0.drop 40).take 3

/-- Operations 43 to 43 of the stretch. -/
def opsE : List (HloOp τ sig (Elt F)) := (hostOps0.drop 43).take 1

set_option maxHeartbeats 40000000 in
/-- The stretch is its pieces in order. -/
theorem ops_split : (hostOps0 : List (HloOp τ sig (Elt F))) = opsA ++ (opsB ++ (opsC ++ (opsD ++ (opsE)))) := rfl

variable (V : Valuation τ sig (Elt F))

set_option maxHeartbeats 4000000 in
theorem A_v0 : after (opsA : List (HloOp τ sig (Elt F))) V (no_index (Proc.devRef .tc main_v0)) = lift (V (Proc.devRef .tc main_arg2)) := by
  simp only [opsA, hostOps0, List.drop_succ_cons, List.drop_zero, List.take_succ_cons, List.take_zero]
  after_results_simp
  try rfl

set_option maxHeartbeats 4000000 in
theorem A_v1 : after (opsA : List (HloOp τ sig (Elt F))) V (no_index (Proc.devRef .tc main_v1)) = lift (V (Proc.devRef .tc main_arg6)) := by
  simp only [opsA, hostOps0, List.drop_succ_cons, List.drop_zero, List.take_succ_cons, List.take_zero]
  after_results_simp
  try rfl

set_option maxHeartbeats 4000000 in
theorem A_arg3 : after (opsA : List (HloOp τ sig (Elt F))) V (no_index (Proc.devRef .tc main_arg3)) = V (Proc.devRef .tc main_arg3) := by
  simp only [opsA, hostOps0, List.drop_succ_cons, List.drop_zero, List.take_succ_cons, List.take_zero]
  after_results_simp
  try rfl

set_option maxHeartbeats 4000000 in
theorem A_arg4 : after (opsA : List (HloOp τ sig (Elt F))) V (no_index (Proc.devRef .tc main_arg4)) = V (Proc.devRef .tc main_arg4) := by
  simp only [opsA, hostOps0, List.drop_succ_cons, List.drop_zero, List.take_succ_cons, List.take_zero]
  after_results_simp
  try rfl

set_option maxHeartbeats 4000000 in
theorem A_arg7 : after (opsA : List (HloOp τ sig (Elt F))) V (no_index (Proc.devRef .tc main_arg7)) = V (Proc.devRef .tc main_arg7) := by
  simp only [opsA, hostOps0, List.drop_succ_cons, List.drop_zero, List.take_succ_cons, List.take_zero]
  after_results_simp
  try rfl

set_option maxHeartbeats 4000000 in
theorem A_arg8 : after (opsA : List (HloOp τ sig (Elt F))) V (no_index (Proc.devRef .tc main_arg8)) = V (Proc.devRef .tc main_arg8) := by
  simp only [opsA, hostOps0, List.drop_succ_cons, List.drop_zero, List.take_succ_cons, List.take_zero]
  after_results_simp
  try rfl

set_option maxHeartbeats 4000000 in
theorem B_v2 : after (opsB : List (HloOp τ sig (Elt F))) V (no_index (Proc.devRef .tc main_v2)) = stackW (V (Proc.devRef .tc main_v0)) (V (Proc.devRef .tc main_v1)) := by
  simp only [opsB, hostOps0, List.drop_succ_cons, List.drop_zero, List.take_succ_cons, List.take_zero]
  after_results_simp
  try rfl

set_option maxHeartbeats 4000000 in
theorem B_v14 : after (opsB : List (HloOp τ sig (Elt F))) V (no_index (Proc.devRef .tc main_v14)) = half (V (Proc.devRef .tc main_arg3)) := by
  simp only [opsB, hostOps0, List.drop_succ_cons, List.drop_zero, List.take_succ_cons, List.take_zero]
  after_results_simp
  try rfl

set_option maxHeartbeats 4000000 in
theorem B_v19 : after (opsB : List (HloOp τ sig (Elt F))) V (no_index (Proc.devRef .tc main_v19)) = half (V (Proc.devRef .tc main_arg4)) := by
  simp only [opsB, hostOps0, List.drop_succ_cons, List.drop_zero, List.take_succ_cons, List.take_zero]
  after_results_simp
  try rfl

set_option maxHeartbeats 4000000 in
theorem B_arg7 : after (opsB : List (HloOp τ sig (Elt F))) V (no_index (Proc.devRef .tc main_arg7)) = V (Proc.devRef .tc main_arg7) := by
  simp only [opsB, hostOps0, List.drop_succ_cons, List.drop_zero, List.take_succ_cons, List.take_zero]
  after_results_simp
  try rfl

set_option maxHeartbeats 4000000 in
theorem B_arg8 : after (opsB : List (HloOp τ sig (Elt F))) V (no_index (Proc.devRef .tc main_arg8)) = V (Proc.devRef .tc main_arg8) := by
  simp only [opsB, hostOps0, List.drop_succ_cons, List.drop_zero, List.take_succ_cons, List.take_zero]
  after_results_simp
  try rfl

set_option maxHeartbeats 4000000 in
theorem C_v2 : after (opsC : List (HloOp τ sig (Elt F))) V (no_index (Proc.devRef .tc main_v2)) = V (Proc.devRef .tc main_v2) := by
  simp only [opsC, hostOps0, List.drop_succ_cons, List.drop_zero, List.take_succ_cons, List.take_zero]
  after_results_simp
  try rfl

set_option maxHeartbeats 4000000 in
theorem C_v20 : after (opsC : List (HloOp τ sig (Elt F))) V (no_index (Proc.devRef .tc main_v20)) = sides (V (Proc.devRef .tc main_v14)) (V (Proc.devRef .tc main_v19)) := by
  simp only [opsC, hostOps0, List.drop_succ_cons, List.drop_zero, List.take_succ_cons, List.take_zero]
  after_results_simp
  try rfl

set_option maxHeartbeats 4000000 in
theorem C_v32 : after (opsC : List (HloOp τ sig (Elt F))) V (no_index (Proc.devRef .tc main_v32)) = half (V (Proc.devRef .tc main_arg7)) := by
  simp only [opsC, hostOps0, List.drop_succ_cons, List.drop_zero, List.take_succ_cons, List.take_zero]
  after_results_simp
  try rfl

set_option maxHeartbeats 4000000 in
theorem C_v37 : after (opsC : List (HloOp τ sig (Elt F))) V (no_index (Proc.devRef .tc main_v37)) = half (V (Proc.devRef .tc main_arg8)) := by
  simp only [opsC, hostOps0, List.drop_succ_cons, List.drop_zero, List.take_succ_cons, List.take_zero]
  after_results_simp
  try rfl

set_option maxHeartbeats 4000000 in
theorem D_v2 : after (opsD : List (HloOp τ sig (Elt F))) V (no_index (Proc.devRef .tc main_v2)) = V (Proc.devRef .tc main_v2) := by
  simp only [opsD, hostOps0, List.drop_succ_cons, List.drop_zero, List.take_succ_cons, List.take_zero]
  after_results_simp
  try rfl

set_option maxHeartbeats 4000000 in
theorem D_v39 : after (opsD : List (HloOp τ sig (Elt F))) V (no_index (Proc.devRef .tc main_v39)) = liftC (V (Proc.devRef .tc main_v20)) := by
  simp only [opsD, hostOps0, List.drop_succ_cons, List.drop_zero, List.take_succ_cons, List.take_zero]
  after_results_simp
  try rfl

set_option maxHeartbeats 4000000 in
theorem D_v40 : after (opsD : List (HloOp τ sig (Elt F))) V (no_index (Proc.devRef .tc main_v40)) = liftC (sides (V (Proc.devRef .tc main_v32)) (V (Proc.devRef .tc main_v37))) := by
  simp only [opsD, hostOps0, List.drop_succ_cons, List.drop_zero, List.take_succ_cons, List.take_zero]
  after_results_simp
  try rfl

set_option maxHeartbeats 4000000 in
theorem E_v2 : after (opsE : List (HloOp τ sig (Elt F))) V (no_index (Proc.devRef .tc main_v2)) = V (Proc.devRef .tc main_v2) := by
  simp only [opsE, hostOps0, List.drop_succ_cons, List.drop_zero, List.take_succ_cons, List.take_zero]
  after_results_simp
  try rfl

set_option maxHeartbeats 4000000 in
theorem E_v41 : after (opsE : List (HloOp τ sig (Elt F))) V (no_index (Proc.devRef .tc main_v41)) = stackC (V (Proc.devRef .tc main_v39)) (V (Proc.devRef .tc main_v40)) := by
  simp only [opsE, hostOps0, List.drop_succ_cons, List.drop_zero, List.take_succ_cons, List.take_zero]
  after_results_simp
  try rfl

set_option maxHeartbeats 4000000 in
/-- The stacked weights. -/
theorem line_v2 : after (hostOps0 : List (HloOp τ sig (Elt F))) V (Proc.devRef .tc main_v2) = stackW (lift (V (Proc.devRef .tc main_arg2))) (lift (V (Proc.devRef .tc main_arg6))) := by
  rw [ops_split]
  simp only [after_append]
  simp only [A_v0, A_v1, A_arg3, A_arg4, A_arg7, A_arg8, B_v2, B_v14, B_v19, B_arg7, B_arg8, C_v2, C_v20, C_v32, C_v37, D_v2, D_v39, D_v40, E_v2, E_v41]
  try rfl

set_option maxHeartbeats 4000000 in
/-- The stacked attention matrices. -/
theorem line_v41 : after (hostOps0 : List (HloOp τ sig (Elt F))) V (Proc.devRef .tc main_v41) = stackC (liftC (sides (half (V (Proc.devRef .tc main_arg3))) (half (V (Proc.devRef .tc main_arg4))))) (liftC (sides (half (V (Proc.devRef .tc main_arg7))) (half (V (Proc.devRef .tc main_arg8))))) := by
  rw [ops_split]
  simp only [after_append]
  simp only [A_v0, A_v1, A_arg3, A_arg4, A_arg7, A_arg8, B_v2, B_v14, B_v19, B_arg7, B_arg8, C_v2, C_v20, C_v32, C_v37, D_v2, D_v39, D_v40, E_v2, E_v41]
  try rfl

end Cert.Proof.HostPrep

end
-- ==== Proof.KernelValue.lean ====
/- The kernel's result as one function of its arguments, at any float values: the stretch before the first custom call,
   the first custom call, the stretch between the calls and the second custom call, composed. -/
module

public import proofs.«01_k».proof.Proof.KernelRun
public import proofs.«01_k».proof.Proof.Regions
public import proofs.«01_k».proof.Proof.HostLine
public import proofs.«01_k».proof.Proof.HostPrep

@[expose] public section

set_option maxRecDepth 16384

noncomputable section

namespace Cert.Proof.KernelValue

open Cert.KernelIdeal Cert.KernelIdeal.Gen Idealize.ShloMosaic Idealize.ShloMosaic.TcCoe Idealize.SL.Sem
open Cert.Proof.Regions Cert.Proof.HostLine Cert.Proof.HostPrep

variable {F : FTy → Type} [FloatOps F]

/-- The stacked weights of the two directions. -/
def wAll (w1 w2 : Vec F S128x128 .f32) : Vec F S2x128x128 .f32 := stackW (lift w1) (lift w2)
/-- The stacked attention matrices of the two directions. -/
def cAll (s1 d1 s2 d2 : Vec F S8x16 .f32) : Vec F S2x128x16 .f32 :=
  stackC (liftC (sides (half s1) (half d1))) (liftC (sides (half s2) (half d2)))

/-- The kernel's result from its ten arguments. -/
def kernelOut (x : Vec F S10000x128 .f32) (e : Vec F S2x320000 .i32) (w1 : Vec F S128x128 .f32) (s1 d1 : Vec F S8x16 .f32)
    (b1 : Vec F S128 .f32) (w2 : Vec F S128x128 .f32) (s2 d2 : Vec F S8x16 .f32) (b2 : Vec F S128 .f32) :
    Vec F S10000x128 .f32 :=
  k1_pay1
    (dirOut (h0Of (hAll x (wAll w1 w2))) (a0Of (aAll x (wAll w1 w2) (cAll s1 d1 s2 d2))) (srcOf e) (dstOf e))
    (dirOut (h1Of (hAll x (wAll w1 w2))) (a1Of (aAll x (wAll w1 w2) (cAll s1 d1 s2 d2))) (dstOf e) (srcOf e))
    (biasRow b1 b2)

variable (m : (ℓ : Loc nD τ sig) → Buf (Elt F) ℓ) (ρ : Dev nD → PrngReg)

theorem entry_arg0 (c : Dev nD) : V1 m ρ c main_arg0 = m ((c : Thread nD τ).loc main_arg0) :=
  W1_args m ρ c main_arg0 (by decide)
theorem entry_w (c : Dev nD) : V1 m ρ c main_v2
    = wAll (m ((c : Thread nD τ).loc main_arg2)) (m ((c : Thread nD τ).loc main_arg6)) := HostPrep.line_v2 (W0 m ρ c)
theorem entry_c (c : Dev nD) : V1 m ρ c main_v41
    = cAll (m ((c : Thread nD τ).loc main_arg3)) (m ((c : Thread nD τ).loc main_arg4))
        (m ((c : Thread nD τ).loc main_arg7)) (m ((c : Thread nD τ).loc main_arg8)) := HostPrep.line_v41 (W0 m ρ c)

theorem mid_h (c : Dev nD) : W2 m ρ c (Proc.devRef .tc main_v42_0)
    = hAll (m ((c : Thread nD τ).loc main_arg0))
        (wAll (m ((c : Thread nD τ).loc main_arg2)) (m ((c : Thread nD τ).loc main_arg6))) := by
  rw [← entry_arg0 m ρ c, ← entry_w m ρ c]
  exact (W2_arr m ρ c 3).trans (arr0_3 (V1 m ρ) c)
theorem mid_a (c : Dev nD) : W2 m ρ c (Proc.devRef .tc main_v42_1)
    = aAll (m ((c : Thread nD τ).loc main_arg0))
        (wAll (m ((c : Thread nD τ).loc main_arg2)) (m ((c : Thread nD τ).loc main_arg6)))
        (cAll (m ((c : Thread nD τ).loc main_arg3)) (m ((c : Thread nD τ).loc main_arg4))
          (m ((c : Thread nD τ).loc main_arg7)) (m ((c : Thread nD τ).loc main_arg8))) := by
  rw [← entry_arg0 m ρ c, ← entry_w m ρ c, ← entry_c m ρ c]
  exact (W2_arr m ρ c 4).trans (arr0_4 (V1 m ρ) c)

/-- The result buffer's contents at the run's end. -/
theorem final (c : Dev nD) : W4 m ρ c main_v167
    = kernelOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine ((W4_arr m ρ c 3).trans (arr1_3 (V3 m ρ) c)).trans ?_
  have e103 := line_v103 (W2 m ρ c)
  have e160 := line_v160 (W2 m ρ c)
  have e166 := line_v166 (W2 m ρ c)
  rw [mid_h, mid_a, W2_args m ρ c main_arg1 (by decide)] at e103 e160
  rw [W2_args m ρ c main_arg5 (by decide), W2_args m ρ c main_arg9 (by decide)] at e166
  unfold kernelOut
  rw [← e103, ← e160, ← e166]

/-- The kernel's run: the result is `kernelOut` of the arguments, which stay as launched. -/
theorem run : θ_run defs (onTc (τ := τ) (main (F := F))) ⟨m, fun _ => 0, ρ⟩ (fun r => ∀ c : Dev nD,
      r.2.mem ((c.tc : Thread nD τ).loc main_v167)
        = kernelOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final m ρ c), (h c).2⟩) (KernelRun.run m ρ)

end Cert.Proof.KernelValue

end
-- ==== Proof.Heads.lean ====
/- The 128 feature columns as 8 heads of 16 channels, and the two quantities both programs compute from them at a node:
   a projected feature, and a head's attention score. -/
module

public import Idealize.ShloMosaic.Lib.ValueIdx
public import Mathlib.Algebra.BigOperators.Fin

@[expose] public section

noncomputable section

namespace Cert.Proof.Heads

open Idealize.ShloMosaic Idealize.ShloMosaic.ValueIdx
open scoped BigOperators

/-- Column of head `h`, channel `c`. -/
def join (h : Fin 8) (c : Fin 16) : Fin 128 := ⟨16 * h.val + c.val, by have := h.isLt; have := c.isLt; omega⟩

/-- Every column is some head's channel. -/
theorem join_surj (j : Fin 128) : ∃ h c, join h c = j :=
  ⟨⟨j.val / 16, by have := j.isLt; omega⟩, ⟨j.val % 16, Nat.mod_lt _ (by omega)⟩, Fin.ext (by
    show 16 * (j.val / 16) + j.val % 16 = j.val
    omega)⟩

/-- A sum over the columns is the double sum over heads and channels. -/
theorem sum_join (g : Fin 128 → EReal) : ∑ j, g j = ∑ h : Fin 8, ∑ c : Fin 16, g (join h c) := by
  rw [← Fintype.sum_prod_type' (fun (h : Fin 8) (c : Fin 16) => g (join h c))]
  rw [← Equiv.sum_comp (finProdFinEquiv (m := 8) (n := 16)) g]
  refine Finset.sum_congr rfl fun p _ => congrArg g (Fin.ext ?_)
  show p.2.val + 16 * p.1.val = 16 * p.1.val + p.2.val
  omega

/-- The projected feature of node `n` in column `j`. -/
def feat (x : (⟨2, ![10000, 128]⟩ : Shape).Idx → EReal) (w : (⟨2, ![128, 128]⟩ : Shape).Idx → EReal) (n : Fin 10000) (j : Fin 128) :
    EReal := ∑ k : Fin 128, x (ix2 n k) * w (ix2 k j)

/-- The attention score of node `n` at head `h`: the head's features against the head's attention vector. -/
def att (x : (⟨2, ![10000, 128]⟩ : Shape).Idx → EReal) (w : (⟨2, ![128, 128]⟩ : Shape).Idx → EReal)
    (a : (⟨2, ![8, 16]⟩ : Shape).Idx → EReal) (n : Fin 10000) (h : Fin 8) : EReal :=
  ∑ c : Fin 16, feat x w n (join h c) * a (ix2 h c)

/-- Against a vector laid out head by head, zero off its own head, the sum over all columns is the head's own sum. -/
theorem sum_blocked (f : Fin 128 → EReal) (a : Fin 8 → Fin 16 → EReal) (b : Fin 128 → EReal) (h : Fin 8)
    (hb : ∀ h' c, b (join h' c) = if h' = h then a h' c else 0) :
    ∑ j, f j * b j = ∑ c : Fin 16, f (join h c) * a h c := by
  rw [sum_join (fun j => f j * b j), Finset.sum_eq_single h]
  · exact Finset.sum_congr rfl fun c _ => by rw [hb, if_pos rfl]
  · intro h' _ hne
    exact Finset.sum_eq_zero fun c _ => by rw [hb, if_neg hne, mul_zero]
  · exact fun hn => absurd (Finset.mem_univ h) hn

end Cert.Proof.Heads

end
-- ==== Proof.KernelScore.lean ====
/- The kernel's first call and the matrices it is handed, at an element and over the extended reals: the two directions'
   features are the projected features, and the sixteen score columns are the source scores and the target scores. -/
module

public import proofs.«01_k».proof.Proof.KernelValue
public import proofs.«01_k».proof.Proof.Heads
public import Idealize.ShloMosaic.Lib.MatmulPlain
public import Idealize.ShloMosaic.PureOps.Ideal.Laws

@[expose] public section

set_option maxRecDepth 16384

noncomputable section

namespace Cert.Proof.KernelScore

open Cert.KernelIdeal Cert.KernelIdeal.Gen Idealize.ShloMosaic Idealize.ShloMosaic.ValueIdx
open Cert.Proof.Regions Cert.Proof.HostLine Cert.Proof.HostPrep Cert.Proof.KernelValue Cert.Proof.Heads
open scoped BigOperators

/-! ## The stacks -/

section Stacks
variable {F : FTy → Type} [FloatOps F]

theorem lift_apply (a : Vec F S128x128 .f32) (z : Fin 1) (k j : Fin 128) : lift a (ix3 z k j) = a (ix2 k j) := by
  unfold lift
  exact broadcastInDim_apply _ bcast_S128x128_S1x128x128_1_2 a (ix3 z k j) (ix2 k j)
    (fun a => match a with | ⟨0, _⟩ => rfl | ⟨1, _⟩ => rfl)

theorem wAll_first (w1 w2 : Vec F S128x128 .f32) (k j : Fin 128) : wAll w1 w2 (ix3 (0 : Fin 2) k j) = w1 (ix2 k j) := by
  unfold wAll stackW
  refine (concatenate_pair_apply_left 0 (lift w1) (lift w2) concatenates_S1x128x128_S1x128x128_S2x128x128_d0
    (ix3 (0 : Fin 2) k j) rfl (ix3 (0 : Fin 1) k j) (fun b => match b with | ⟨0, _⟩ => rfl | ⟨1, _⟩ => rfl | ⟨2, _⟩ => rfl)).trans ?_
  exact lift_apply w1 0 k j

theorem wAll_second (w1 w2 : Vec F S128x128 .f32) (k j : Fin 128) : wAll w1 w2 (ix3 (1 : Fin 2) k j) = w2 (ix2 k j) := by
  unfold wAll stackW
  refine (concatenate_pair_apply_right 0 (lift w1) (lift w2) concatenates_S1x128x128_S1x128x128_S2x128x128_d0
    (ix3 (1 : Fin 2) k j) rfl rfl (ix3 (0 : Fin 1) k j)
    (fun b hb => match b with | ⟨0, _⟩ => absurd rfl hb | ⟨1, _⟩ => rfl | ⟨2, _⟩ => rfl) rfl).trans ?_
  exact lift_apply w2 0 k j

theorem liftC_apply (a : Vec F S128x16 .f32) (z : Fin 1) (k : Fin 128) (j : Fin 16) : liftC a (ix3 z k j) = a (ix2 k j) := by
  unfold liftC
  exact broadcastInDim_apply _ bcast_S128x16_S1x128x16_1_2 a (ix3 z k j) (ix2 k j)
    (fun a => match a with | ⟨0, _⟩ => rfl | ⟨1, _⟩ => rfl)

theorem stackC_first (a b : Vec F S1x128x16 .f32) (k : Fin 128) (j : Fin 16) :
    stackC a b (ix3 (0 : Fin 2) k j) = a (ix3 (0 : Fin 1) k j) := by
  unfold stackC
  exact concatenate_pair_apply_left 0 a b concatenates_S1x128x16_S1x128x16_S2x128x16_d0
    (ix3 (0 : Fin 2) k j) rfl (ix3 (0 : Fin 1) k j) (fun b => match b with | ⟨0, _⟩ => rfl | ⟨1, _⟩ => rfl | ⟨2, _⟩ => rfl)

theorem stackC_second (a b : Vec F S1x128x16 .f32) (k : Fin 128) (j : Fin 16) :
    stackC a b (ix3 (1 : Fin 2) k j) = b (ix3 (0 : Fin 1) k j) := by
  unfold stackC
  exact concatenate_pair_apply_right 0 a b concatenates_S1x128x16_S1x128x16_S2x128x16_d0
    (ix3 (1 : Fin 2) k j) rfl rfl (ix3 (0 : Fin 1) k j)
    (fun b hb => match b with | ⟨0, _⟩ => absurd rfl hb | ⟨1, _⟩ => rfl | ⟨2, _⟩ => rfl) rfl

theorem sides_left (a b : Vec F S128x8 .f32) (k : Fin 128) (h : Fin 8) (c : Fin 16) (hc : c.val = h.val) :
    sides a b (ix2 k c) = a (ix2 k h) := by
  unfold sides
  exact concatenate_pair_apply_left 1 a b concatenates_S128x8_S128x8_S128x16_d1 (ix2 k c) rfl (ix2 k h)
    (fun b => match b with | ⟨0, _⟩ => rfl | ⟨1, _⟩ => hc.symm)

theorem sides_right (a b : Vec F S128x8 .f32) (k : Fin 128) (h : Fin 8) (c : Fin 16) (hc : c.val = 8 + h.val) :
    sides a b (ix2 k c) = b (ix2 k h) := by
  unfold sides
  exact concatenate_pair_apply_right 1 a b concatenates_S128x8_S128x8_S128x16_d1 (ix2 k c) rfl rfl (ix2 k h)
    (fun b hb => match b with | ⟨0, _⟩ => rfl | ⟨1, _⟩ => absurd rfl hb)
    (by show h.val + 8 = c.val; omega)

/-! ## The slices between the calls -/

theorem h0Of_apply (x : Vec F S2x10000x128 .f32) (n : Fin 10000) (j : Fin 128) : h0Of x (ix2 n j) = x (ix3 (0 : Fin 2) n j) := by
  unfold h0Of
  refine (shapeCast_apply _ shapeCasts_S1x10000x128_S10000x128 (ix2 n j) (ix3 (0 : Fin 1) n j)
    (by rw [Shape.rowMajor_val_three, Shape.rowMajor_val_two]
        show (0 * 10000 + n.val) * 128 + j.val = n.val * 128 + j.val; omega)).trans ?_
  exact extractStridedSlice_apply _ x slices_S2x10000x128_S1x10000x128_0_0_0 (ix3 (0 : Fin 1) n j) (ix3 (0 : Fin 2) n j)
    (fun a => match a with | ⟨0, _⟩ => rfl | ⟨1, _⟩ => (Nat.zero_add _).symm | ⟨2, _⟩ => (Nat.zero_add _).symm)

theorem h1Of_apply (x : Vec F S2x10000x128 .f32) (n : Fin 10000) (j : Fin 128) : h1Of x (ix2 n j) = x (ix3 (1 : Fin 2) n j) := by
  unfold h1Of
  refine (shapeCast_apply _ shapeCasts_S1x10000x128_S10000x128 (ix2 n j) (ix3 (0 : Fin 1) n j)
    (by rw [Shape.rowMajor_val_three, Shape.rowMajor_val_two]
        show (0 * 10000 + n.val) * 128 + j.val = n.val * 128 + j.val; omega)).trans ?_
  exact extractStridedSlice_apply _ x slices_S2x10000x128_S1x10000x128_1_0_0 (ix3 (0 : Fin 1) n j) (ix3 (1 : Fin 2) n j)
    (fun a => match a with | ⟨0, _⟩ => rfl | ⟨1, _⟩ => (Nat.zero_add _).symm | ⟨2, _⟩ => (Nat.zero_add _).symm)

theorem a0Of_apply (x : Vec F S2x10000x16 .f32) (n : Fin 10000) (j : Fin 16) : a0Of x (ix2 n j) = x (ix3 (0 : Fin 2) n j) := by
  unfold a0Of
  refine (shapeCast_apply _ shapeCasts_S1x10000x16_S10000x16 (ix2 n j) (ix3 (0 : Fin 1) n j)
    (by rw [Shape.rowMajor_val_three, Shape.rowMajor_val_two]
        show (0 * 10000 + n.val) * 16 + j.val = n.val * 16 + j.val; omega)).trans ?_
  exact extractStridedSlice_apply _ x slices_S2x10000x16_S1x10000x16_0_0_0 (ix3 (0 : Fin 1) n j) (ix3 (0 : Fin 2) n j)
    (fun a => match a with | ⟨0, _⟩ => rfl | ⟨1, _⟩ => (Nat.zero_add _).symm | ⟨2, _⟩ => (Nat.zero_add _).symm)

theorem a1Of_apply (x : Vec F S2x10000x16 .f32) (n : Fin 10000) (j : Fin 16) : a1Of x (ix2 n j) = x (ix3 (1 : Fin 2) n j) := by
  unfold a1Of
  refine (shapeCast_apply _ shapeCasts_S1x10000x16_S10000x16 (ix2 n j) (ix3 (0 : Fin 1) n j)
    (by rw [Shape.rowMajor_val_three, Shape.rowMajor_val_two]
        show (0 * 10000 + n.val) * 16 + j.val = n.val * 16 + j.val; omega)).trans ?_
  exact extractStridedSlice_apply _ x slices_S2x10000x16_S1x10000x16_1_0_0 (ix3 (0 : Fin 1) n j) (ix3 (1 : Fin 2) n j)
    (fun a => match a with | ⟨0, _⟩ => rfl | ⟨1, _⟩ => (Nat.zero_add _).symm | ⟨2, _⟩ => (Nat.zero_add _).symm)

end Stacks

/-! ## The attention matrix -/

theorem one_word : ((1#1 : BitVec 1).toNat : ℝ) = 1 := by simp

theorem eye_apply (h' h : Fin 8) : eye (F := Ideal) (ix2 h' h) = if h' = h then (1 : EReal) else 0 := by
  have hb : IntOp.cmpi .eq (IntOp.addi (BitVec.ofNat 32 h'.val) 0#32) (BitVec.ofNat 32 h.val) = if h' = h then 1#1 else 0#1 := by
    revert h' h
    decide
  show (((IntOp.cmpi .eq (IntOp.addi (BitVec.ofNat 32 h'.val) 0#32) (BitVec.ofNat 32 h.val)).toNat : ℝ) : EReal) = _
  rw [hb]
  by_cases e : h' = h
  · rw [if_pos e, if_pos e, one_word, EReal.coe_one]
  · rw [if_neg e, if_neg e]; simp

theorem half_apply (a : Vec Ideal S8x16 .f32) (h' : Fin 8) (c : Fin 16) (h : Fin 8) :
    half a (ix2 (join h' c) h) = if h' = h then a (ix2 h' c) else (0 : EReal) := by
  unfold half
  refine (shapeCast_apply _ shapeCasts_S8x16x8_S128x8 (ix2 (join h' c) h) (ix3 h' c h)
    (by rw [Shape.rowMajor_val_three, Shape.rowMajor_val_two]
        show (h'.val * 16 + c.val) * 8 + h.val = (16 * h'.val + c.val) * 8 + h.val; omega)).trans ?_
  rw [mulf_apply]
  rw [broadcastInDim_apply _ bcast_S8x16x1_S8x16x8_0_1_2 _ (ix3 h' c h) (ix3 h' c (0 : Fin 1))
    (fun a => match a with | ⟨0, _⟩ => rfl | ⟨1, _⟩ => rfl | ⟨2, _⟩ => rfl)]
  rw [broadcastInDim_apply _ bcast_S8x16_S8x16x1_0_1 a (ix3 h' c (0 : Fin 1)) (ix2 h' c)
    (fun a => match a with | ⟨0, _⟩ => rfl | ⟨1, _⟩ => rfl)]
  rw [broadcastInDim_apply _ bcast_S8x1x8_S8x16x8_0_1_2 _ (ix3 h' c h) (ix3 h' (0 : Fin 1) h)
    (fun a => match a with | ⟨0, _⟩ => rfl | ⟨1, _⟩ => rfl | ⟨2, _⟩ => rfl)]
  rw [broadcastInDim_apply _ bcast_S8x8_S8x1x8_0_2 eye (ix3 h' (0 : Fin 1) h) (ix2 h' h)
    (fun a => match a with | ⟨0, _⟩ => rfl | ⟨1, _⟩ => rfl)]
  rw [eye_apply]
  by_cases e : h' = h
  · rw [if_pos e, if_pos e]
    exact mul_one (a (ix2 h' c) : EReal)
  · rw [if_neg e, if_neg e]
    exact mul_zero (a (ix2 h' c) : EReal)

/-! ## The first call's two results -/

theorem proj_apply (x : Vec Ideal S10000x128 .f32) (v : Vec Ideal S1x128x128 .f32) (n : Fin 10000) (j : Fin 128) :
    k0_pay1 x v (ix2 n j) = ∑ k : Fin 128, (x (ix2 n k) : EReal) * v (ix3 (0 : Fin 1) k j) := by
  unfold k0_pay1
  refine (Ideal.matmul_plain_apply (M := 10000) (K := 128) (N := 128) none x _ _ n j).trans ?_
  rw [constant_apply, Ideal.ofBits_zero_f32, zero_add]
  refine Finset.sum_congr rfl fun k _ => congrArg ((x (ix2 n k) : EReal) * ·) ?_
  exact shapeCast_apply v shapeCasts_S1x128x128_S128x128 (ix2 k j) (ix3 (0 : Fin 1) k j)
    (by rw [Shape.rowMajor_val_three, Shape.rowMajor_val_two]
        show (0 * 128 + k.val) * 128 + j.val = k.val * 128 + j.val; omega)

theorem hAll_apply (x : Vec Ideal S10000x128 .f32) (w : Vec Ideal S2x128x128 .f32) (d : Fin 2) (n : Fin 10000) (j : Fin 128) :
    hAll x w (ix3 d n j) = ∑ k : Fin 128, (x (ix2 n k) : EReal) * w (ix3 d k j) := by
  show k0_pay2 x (wBlk w d) (ix3 (0 : Fin 1) n j) = _
  unfold k0_pay2
  refine (shapeCast_apply _ shapeCasts_S10000x128_S1x10000x128 (ix3 (0 : Fin 1) n j) (ix2 n j)
    (by rw [Shape.rowMajor_val_three, Shape.rowMajor_val_two]
        show n.val * 128 + j.val = (0 * 10000 + n.val) * 128 + j.val; omega)).trans ?_
  exact proj_apply x (wBlk w d) n j

theorem aAll_apply (x : Vec Ideal S10000x128 .f32) (w : Vec Ideal S2x128x128 .f32) (a : Vec Ideal S2x128x16 .f32) (d : Fin 2)
    (n : Fin 10000) (c : Fin 16) :
    aAll x w a (ix3 d n c) = ∑ j : Fin 128, (∑ k : Fin 128, (x (ix2 n k) : EReal) * w (ix3 d k j)) * a (ix3 d j c) := by
  show k0_pay3 x (wBlk w d) (cBlk a d) (ix3 (0 : Fin 1) n c) = _
  unfold k0_pay3
  refine (shapeCast_apply _ shapeCasts_S10000x16_S1x10000x16 (ix3 (0 : Fin 1) n c) (ix2 n c)
    (by rw [Shape.rowMajor_val_three, Shape.rowMajor_val_two]
        show n.val * 16 + c.val = (0 * 10000 + n.val) * 16 + c.val; omega)).trans ?_
  refine (Ideal.matmul_plain_apply (M := 10000) (K := 128) (N := 16) none (k0_pay1 x (wBlk w d)) _ _ n c).trans ?_
  rw [constant_apply, Ideal.ofBits_zero_f32, zero_add]
  refine Finset.sum_congr rfl fun j _ => ?_
  rw [proj_apply]
  refine congrArg ((∑ k : Fin 128, (x (ix2 n k) : EReal) * w (ix3 d k j)) * ·) ?_
  exact shapeCast_apply (cBlk a d) shapeCasts_S1x128x16_S128x16 (ix2 j c) (ix3 (0 : Fin 1) j c)
    (by rw [Shape.rowMajor_val_three, Shape.rowMajor_val_two]
        show (0 * 128 + j.val) * 16 + c.val = j.val * 16 + c.val; omega)

/-! ## The features and the scores of each direction -/

variable (x : Vec Ideal S10000x128 .f32) (w1 w2 : Vec Ideal S128x128 .f32) (s1 d1 s2 d2 : Vec Ideal S8x16 .f32)

theorem h0_apply (n : Fin 10000) (j : Fin 128) : h0Of (hAll x (wAll w1 w2)) (ix2 n j) = feat x w1 n j := by
  rw [h0Of_apply, hAll_apply]
  simp only [wAll_first]
  rfl

theorem h1_apply (n : Fin 10000) (j : Fin 128) : h1Of (hAll x (wAll w1 w2)) (ix2 n j) = feat x w2 n j := by
  rw [h1Of_apply, hAll_apply]
  simp only [wAll_second]
  rfl

/-- A score column against the blocked attention vector is the head's score. -/
theorem column_sum (w : Vec Ideal S128x128 .f32) (a : Vec Ideal S8x16 .f32) (n : Fin 10000) (h : Fin 8) :
    ∑ j : Fin 128, feat x w n j * half a (ix2 j h) = att x w a n h :=
  sum_blocked (fun j => feat x w n j) (fun h c => a (ix2 h c)) (fun j => half a (ix2 j h)) h (fun h' c => half_apply a h' c h)

theorem a0_src (n : Fin 10000) (h : Fin 8) (c : Fin 16) (hc : c.val = h.val) :
    a0Of (aAll x (wAll w1 w2) (cAll s1 d1 s2 d2)) (ix2 n c) = att x w1 s1 n h := by
  rw [a0Of_apply, aAll_apply, ← column_sum]
  refine Finset.sum_congr rfl fun j _ => ?_
  unfold cAll
  rw [stackC_first, liftC_apply, sides_left _ _ j h c hc]
  simp only [wAll_first]
  rfl

theorem a0_dst (n : Fin 10000) (h : Fin 8) (c : Fin 16) (hc : c.val = 8 + h.val) :
    a0Of (aAll x (wAll w1 w2) (cAll s1 d1 s2 d2)) (ix2 n c) = att x w1 d1 n h := by
  rw [a0Of_apply, aAll_apply, ← column_sum]
  refine Finset.sum_congr rfl fun j _ => ?_
  unfold cAll
  rw [stackC_first, liftC_apply, sides_right _ _ j h c hc]
  simp only [wAll_first]
  rfl

theorem a1_src (n : Fin 10000) (h : Fin 8) (c : Fin 16) (hc : c.val = h.val) :
    a1Of (aAll x (wAll w1 w2) (cAll s1 d1 s2 d2)) (ix2 n c) = att x w2 s2 n h := by
  rw [a1Of_apply, aAll_apply, ← column_sum]
  refine Finset.sum_congr rfl fun j _ => ?_
  unfold cAll
  rw [stackC_second, liftC_apply, sides_left _ _ j h c hc]
  simp only [wAll_second]
  rfl

theorem a1_dst (n : Fin 10000) (h : Fin 8) (c : Fin 16) (hc : c.val = 8 + h.val) :
    a1Of (aAll x (wAll w1 w2) (cAll s1 d1 s2 d2)) (ix2 n c) = att x w2 d2 n h := by
  rw [a1Of_apply, aAll_apply, ← column_sum]
  refine Finset.sum_congr rfl fun j _ => ?_
  unfold cAll
  rw [stackC_second, liftC_apply, sides_right _ _ j h c hc]
  simp only [wAll_second]
  rfl

end Cert.Proof.KernelScore

end
-- ==== Proof.Tables.lean ====
/- Reading a table at a list of rows, and adding rows into a table, at one element: the gathers and scatters of the two
   programs at symbolic extents. A gather's row index is read signed and clamped into the table; a scatter's is read
   signed, and an update whose row is outside the table is dropped. -/
module

public import Idealize.ShloMosaic.Lib.Routing.OpsPair
public import Idealize.ShloMosaic.Lib.ValueIdx
public import Idealize.ShloMosaic.PureOps.Ideal.Laws

@[expose] public section

noncomputable section

namespace Cert.Proof.Tables

open Idealize.ShloMosaic Idealize.ShloMosaic.ValueIdx
open scoped BigOperators

/-- The row of an `N`-row table that a word reads: the word as a signed number, clamped. -/
def clampRow {w : ℕ} (N : ℕ) (hN : 0 < N) (b : BitVec w) : Fin N := ⟨min b.toInt.toNat (N - 1), by omega⟩

/-- A word that is the signed number `n` of a row reads that row. -/
theorem clampRow_of_toInt {w N : ℕ} (hN : 0 < N) (b : BitVec w) (n : Fin N) (h : b.toInt = (n.val : ℤ)) :
    clampRow N hN b = n := by
  apply Fin.ext
  show min b.toInt.toNat (N - 1) = n.val
  have := n.isLt
  rw [h]; omega

section Gather
variable {α : Type} {N E C H K w : ℕ}

/-- Whole rows of an `N × C` table at one row index each. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Row `k` of the gathered table is the row that index `k` reads. -/
theorem rowGather_apply (hN : 0 < N) (wf) (x : (⟨2, ![N, C]⟩ : Shape).Idx → α) (idx : IVec ⟨2, ![E, 1]⟩ w) (k : Fin E) (j : Fin C) :
    Host.gather (rowGather N E C wf) x idx (ix2 k j) = x (ix2 (clampRow N hN (idx (ix2 k (0 : Fin 1)))) j) := by
  unfold Host.gather
  refine congrArg x (funext fun a => Fin.ext ?_)
  show (rowGather N E C wf).start (ix2 k j) idx a + (rowGather N E C wf).batchCoord (ix2 k j) a
      + (rowGather N E C wf).offCoord (ix2 k j) a = _
  rw [GatherDims.batchCoord_eq_zero _ _ _ List.not_mem_nil]
  match a with
  | ⟨0, _⟩ =>
    have hi : (rowGather N E C wf).siIdx (ix2 k j) ⟨0, Nat.one_pos⟩ = ix2 k (0 : Fin 1) :=
      funext fun b => Fin.ext (by match b with | ⟨0, _⟩ => rfl | ⟨1, _⟩ => rfl)
    exact congrArg (fun i => min (idx i).toInt.toNat (N - 1)) hi
  | ⟨1, _⟩ => exact Nat.zero_add _

/-- Whole `H × K` slabs of an `N × H × K` table at one index each. -/
abbrev slabGather (N E H K : ℕ)
    (wf : GatherDims.WF ⟨3, ![N, H, K]⟩ ⟨2, ![E, 1]⟩ ⟨3, ![E, H, K]⟩ [1, 2] [0] [] [0] [] 1 ![1, H, K]) :
    GatherDims ⟨3, ![N, H, K]⟩ ⟨2, ![E, 1]⟩ ⟨3, ![E, H, K]⟩ where
  offsetDims := [1, 2]
  collapsedSliceDims := [0]
  operandBatchingDims := []
  startIndicesBatchingDims := []
  startIndexMap := [0]
  indexVectorDim := 1
  sliceSizes := ![1, H, K]
  wf := wf

/-- Slab `k` of the gathered table is the slab that index `k` reads. -/
theorem slabGather_apply (hN : 0 < N) (wf) (x : (⟨3, ![N, H, K]⟩ : Shape).Idx → α) (idx : IVec ⟨2, ![E, 1]⟩ w)
    (k : Fin E) (h : Fin H) (j : Fin K) :
    Host.gather (slabGather N E H K wf) x idx (ix3 k h j) = x (ix3 (clampRow N hN (idx (ix2 k (0 : Fin 1)))) h j) := by
  unfold Host.gather
  refine congrArg x (funext fun a => Fin.ext ?_)
  show (slabGather N E H K wf).start (ix3 k h j) idx a + (slabGather N E H K wf).batchCoord (ix3 k h j) a
      + (slabGather N E H K wf).offCoord (ix3 k h j) a = _
  rw [GatherDims.batchCoord_eq_zero _ _ _ List.not_mem_nil]
  match a with
  | ⟨0, _⟩ =>
    have hi : (slabGather N E H K wf).siIdx (ix3 k h j) ⟨0, Nat.one_pos⟩ = ix2 k (0 : Fin 1) :=
      funext fun b => Fin.ext (by match b with | ⟨0, _⟩ => rfl | ⟨1, _⟩ => rfl)
    exact congrArg (fun i => min (idx i).toInt.toNat (N - 1)) hi
  | ⟨1, _⟩ => exact Nat.zero_add _
  | ⟨2, _⟩ => exact Nat.zero_add _

/-- `K` neighbouring entries of a row of an `N × C` table, at a row index and a first column each. -/
abbrev spanGather (N E C K : ℕ) (wf : GatherDims.WF ⟨2, ![N, C]⟩ ⟨2, ![E, 2]⟩ ⟨2, ![E, K]⟩ [1] [0] [] [0, 1] [] 1 ![1, K]) :
    GatherDims ⟨2, ![N, C]⟩ ⟨2, ![E, 2]⟩ ⟨2, ![E, K]⟩ where
  offsetDims := [1]
  collapsedSliceDims := [0]
  operandBatchingDims := []
  startIndicesBatchingDims := []
  startIndexMap := [0, 1]
  indexVectorDim := 1
  sliceSizes := ![1, K]
  wf := wf

/-- Row `k` of the gathered table is `K` entries from the row its first index reads, from its second index on. -/
theorem spanGather_apply (hN : 0 < N) (wf) (x : (⟨2, ![N, C]⟩ : Shape).Idx → α) (idx : IVec ⟨2, ![E, 2]⟩ w)
    (k : Fin E) (j : Fin K) (c : Fin C)
    (hc : c.val = min (idx (ix2 k (1 : Fin 2))).toInt.toNat (C - K) + j.val) :
    Host.gather (spanGather N E C K wf) x idx (ix2 k j) = x (ix2 (clampRow N hN (idx (ix2 k (0 : Fin 2)))) c) := by
  unfold Host.gather
  refine congrArg x (funext fun a => Fin.ext ?_)
  show (spanGather N E C K wf).start (ix2 k j) idx a + (spanGather N E C K wf).batchCoord (ix2 k j) a
      + (spanGather N E C K wf).offCoord (ix2 k j) a = _
  rw [GatherDims.batchCoord_eq_zero _ _ _ List.not_mem_nil]
  match a with
  | ⟨0, _⟩ =>
    have hi : (spanGather N E C K wf).siIdx (ix2 k j) ⟨0, Nat.two_pos⟩ = ix2 k (0 : Fin 2) :=
      funext fun b => Fin.ext (by match b with | ⟨0, _⟩ => rfl | ⟨1, _⟩ => rfl)
    exact congrArg (fun i => min (idx i).toInt.toNat (N - 1)) hi
  | ⟨1, _⟩ =>
    have hi : (spanGather N E C K wf).siIdx (ix2 k j) ⟨1, Nat.one_lt_two⟩ = ix2 k (1 : Fin 2) :=
      funext fun b => Fin.ext (by match b with | ⟨0, _⟩ => rfl | ⟨1, _⟩ => rfl)
    refine Eq.trans ?_ hc.symm
    exact congrArg (fun i => min (idx i).toInt.toNat (C - K) + j.val) hi

end Gather

section Scatter
variable {N E C H K w : ℕ}

/-- Rows added into an `N × C` table at one row index each. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(k, j)` lands at `(n, c)` exactly when its index is `n` and `j` is `c`. -/
theorem rowScatter_lands (wf) (idx : IVec ⟨2, ![E, 1]⟩ w) (k : Fin E) (j : Fin C) (n : Fin N) (c : Fin C) :
    (rowScatter N E C wf).resultIdx? (ix2 k j) idx = some (ix2 n c)
      ↔ (idx (ix2 k (0 : Fin 1))).toInt = (n.val : ℤ) ∧ j = c := by
  have hi : (rowScatter N E C wf).siIdx (ix2 k j) ⟨0, Nat.one_pos⟩ = ix2 k (0 : Fin 1) :=
    funext fun b => Fin.ext (by match b with | ⟨0, _⟩ => rfl | ⟨1, _⟩ => rfl)
  have s0 : (rowScatter N E C wf).start (ix2 k j) idx 0 = (idx (ix2 k (0 : Fin 1))).toInt :=
    congrArg (fun i => (idx i).toInt) hi
  have s1 : (rowScatter N E C wf).start (ix2 k j) idx 1 = 0 := rfl
  have w0 : (rowScatter N E C wf).window (ix2 k j) 0 = 0 := rfl
  have w1 : (rowScatter N E C wf).window (ix2 k j) 1 = j.val := rfl
  refine (Routing.resultIdx?_ix2 _ _ _ _ _).trans ?_
  rw [s0, s1, w0, w1]
  constructor
  · rintro ⟨a, b⟩; exact ⟨by omega, Fin.ext (by omega)⟩
  · rintro ⟨a, rfl⟩; exact ⟨by omega, by omega⟩

/-- Adding rows into a table, at `(n, c)`: the entry and the sum of the entries `c` of the rows whose index is `n`. -/
theorem rowScatter_apply (wf) (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ k ∈ Finset.univ.filter (fun k : Fin E => (idx (ix2 k (0 : Fin 1))).toInt = (n.val : ℤ)), upd (ix2 k c) := by
  show x (ix2 n c) + ∑ j ∈ Finset.univ.filter (fun j => (rowScatter N E C wf).resultIdx? j idx = some (ix2 n c)), upd j = _
  refine congrArg (x (ix2 n c) + ·) ?_
  have back : ∀ j : (⟨2, ![E, C]⟩ : Shape).Idx, (rowScatter N E C wf).resultIdx? j idx = some (ix2 n c) →
      (idx (ix2 (j 0) (0 : Fin 1))).toInt = (n.val : ℤ) ∧ ix2 (j 0) c = j := fun j hj => by
    rw [eq_ix2 j] at hj
    obtain ⟨h0, e⟩ := (rowScatter_lands wf idx _ _ n c).1 hj
    refine ⟨h0, Eq.trans ?_ (eq_ix2 j).symm⟩
    exact congrArg (fun d : Fin C => ix2 (j 0) d) e.symm
  refine Finset.sum_bij' (fun j _ => j 0) (fun k _ => ix2 k c) ?_ ?_ ?_ ?_ ?_
  · exact fun j hj => Finset.mem_filter.2 ⟨Finset.mem_univ _, (back j (Finset.mem_filter.1 hj).2).1⟩
  · exact fun k hk => Finset.mem_filter.2 ⟨Finset.mem_univ _,
      (rowScatter_lands wf idx _ _ n c).2 ⟨(Finset.mem_filter.1 hk).2, rfl⟩⟩
  · exact fun j hj => (back j (Finset.mem_filter.1 hj).2).2
  · exact fun k _ => rfl
  · exact fun j hj => congrArg upd (back j (Finset.mem_filter.1 hj).2).2.symm

/-- Slabs added into an `N × H × K` table at one index each. -/
abbrev slabScatter (N E H K : ℕ) (wf : ScatterDims.WF ⟨3, ![N, H, K]⟩ ⟨2, ![E, 1]⟩ ⟨3, ![E, H, K]⟩ [1, 2] [0] [0] 1) :
    ScatterDims ⟨3, ![N, H, K]⟩ ⟨2, ![E, 1]⟩ ⟨3, ![E, H, K]⟩ where
  updateWindowDims := [1, 2]
  insertedWindowDims := [0]
  scatterDimsToOperandDims := [0]
  indexVectorDim := 1
  wf := wf

/-- Update `(k, i, j)` lands at `(n, h, c)` exactly when its index is `n`, `i` is `h` and `j` is `c`. -/
theorem slabScatter_lands (wf) (idx : IVec ⟨2, ![E, 1]⟩ w) (k : Fin E) (i : Fin H) (j : Fin K) (n : Fin N) (h : Fin H) (c : Fin K) :
    (slabScatter N E H K wf).resultIdx? (ix3 k i j) idx = some (ix3 n h c)
      ↔ (idx (ix2 k (0 : Fin 1))).toInt = (n.val : ℤ) ∧ i = h ∧ j = c := by
  have hi : (slabScatter N E H K wf).siIdx (ix3 k i j) ⟨0, Nat.one_pos⟩ = ix2 k (0 : Fin 1) :=
    funext fun b => Fin.ext (by match b with | ⟨0, _⟩ => rfl | ⟨1, _⟩ => rfl)
  have s0 : (slabScatter N E H K wf).start (ix3 k i j) idx 0 = (idx (ix2 k (0 : Fin 1))).toInt :=
    congrArg (fun i => (idx i).toInt) hi
  have s1 : (slabScatter N E H K wf).start (ix3 k i j) idx 1 = 0 := rfl
  have s2 : (slabScatter N E H K wf).start (ix3 k i j) idx 2 = 0 := rfl
  have w0 : (slabScatter N E H K wf).window (ix3 k i j) 0 = 0 := rfl
  have w1 : (slabScatter N E H K wf).window (ix3 k i j) 1 = i.val := rfl
  have w2 : (slabScatter N E H K wf).window (ix3 k i j) 2 = j.val := rfl
  refine (Routing.resultIdx?_eq_some _ _ _ _).trans ?_
  constructor
  · intro q
    have q0 := q 0
    have q1 := q 1
    have q2 := q 2
    rw [s0, w0] at q0
    rw [s1, w1] at q1
    rw [s2, w2] at q2
    refine ⟨?_, Fin.ext ?_, Fin.ext ?_⟩
    · change _ = (n.val : ℤ) at q0; omega
    · change _ = (h.val : ℤ) at q1; omega
    · change _ = (c.val : ℤ) at q2; omega
  · rintro ⟨q, rfl, rfl⟩ a
    match a with
    | ⟨0, _⟩ =>
      show (slabScatter N E H K wf).start (ix3 k i j) idx 0 + ((slabScatter N E H K wf).window (ix3 k i j) 0 : ℤ) = (n.val : ℤ)
      rw [s0, w0, q]; omega
    | ⟨1, _⟩ =>
      show (slabScatter N E H K wf).start (ix3 k i j) idx 1 + ((slabScatter N E H K wf).window (ix3 k i j) 1 : ℤ) = (i.val : ℤ)
      rw [s1, w1]; omega
    | ⟨2, _⟩ =>
      show (slabScatter N E H K wf).start (ix3 k i j) idx 2 + ((slabScatter N E H K wf).window (ix3 k i j) 2 : ℤ) = (j.val : ℤ)
      rw [s2, w2]; omega

/-- Adding slabs into a table, at `(n, h, c)`: the entry and the sum of the entries `(h, c)` of the slabs whose index is `n`. -/
theorem slabScatter_apply (wf) (x : (⟨3, ![N, H, K]⟩ : Shape).Idx → EReal) (idx : IVec ⟨2, ![E, 1]⟩ w)
    (upd : (⟨3, ![E, H, K]⟩ : Shape).Idx → EReal) (n : Fin N) (h : Fin H) (c : Fin K) :
    Ideal.hostScatterAdd (slabScatter N E H K wf) x idx upd (ix3 n h c)
      = x (ix3 n h c) + ∑ k ∈ Finset.univ.filter (fun k : Fin E => (idx (ix2 k (0 : Fin 1))).toInt = (n.val : ℤ)), upd (ix3 k h c) := by
  show x (ix3 n h c) + ∑ j ∈ Finset.univ.filter (fun j => (slabScatter N E H K wf).resultIdx? j idx = some (ix3 n h c)), upd j = _
  refine congrArg (x (ix3 n h c) + ·) ?_
  have back : ∀ j : (⟨3, ![E, H, K]⟩ : Shape).Idx, (slabScatter N E H K wf).resultIdx? j idx = some (ix3 n h c) →
      (idx (ix2 (j 0) (0 : Fin 1))).toInt = (n.val : ℤ) ∧ ix3 (j 0) h c = j := fun j hj => by
    rw [eq_ix3 j] at hj
    obtain ⟨h0, e1, e2⟩ := (slabScatter_lands wf idx _ _ _ n h c).1 hj
    refine ⟨h0, Eq.trans ?_ (eq_ix3 j).symm⟩
    exact congrArg₂ (fun (a : Fin H) (b : Fin K) => ix3 (j 0) a b) e1.symm e2.symm
  refine Finset.sum_bij' (fun j _ => j 0) (fun k _ => ix3 k h c) ?_ ?_ ?_ ?_ ?_
  · exact fun j hj => Finset.mem_filter.2 ⟨Finset.mem_univ _, (back j (Finset.mem_filter.1 hj).2).1⟩
  · exact fun k hk => Finset.mem_filter.2 ⟨Finset.mem_univ _,
      (slabScatter_lands wf idx _ _ _ n h c).2 ⟨(Finset.mem_filter.1 hk).2, rfl, rfl⟩⟩
  · exact fun j hj => (back j (Finset.mem_filter.1 hj).2).2
  · exact fun k _ => rfl
  · exact fun j hj => congrArg upd (back j (Finset.mem_filter.1 hj).2).2.symm

end Scatter

end Cert.Proof.Tables

end
-- ==== Proof.Softmax.lean ====
/- The laws of the extended reals that the equality rests on: shifting an exponential by a real number scales it, a
   guarded quotient is unchanged when its two terms are scaled by one positive real, the leaky rectification is a
   maximum, and a half distributes over a sum. None needs its arguments to be finite. -/
module

public import Idealize.ShloMosaic.PureOps.Ideal.Laws
public import Mathlib.Data.EReal.Inv

@[expose] public section

noncomputable section

namespace Cert.Proof.Softmax

open Idealize.ShloMosaic
open scoped BigOperators

/-- An exponential is not negative. -/
theorem exp_nonneg (x : EReal) : 0 ≤ Ideal.exp x := by
  induction x with
  | bot => exact le_refl _
  | top => exact le_top
  | coe r => exact EReal.coe_nonneg.2 (Real.exp_pos r).le

/-- Shifting the argument by a real scales the exponential. -/
theorem exp_shift (x : EReal) (r : ℝ) : Ideal.exp (x - (r : EReal)) = Ideal.exp x * (Real.exp (-r) : EReal) := by
  induction x with
  | bot =>
    rw [EReal.bot_sub]
    show (0 : EReal) = 0 * _
    rw [zero_mul]
  | top =>
    rw [EReal.top_sub_coe]
    show (⊤ : EReal) = ⊤ * _
    rw [EReal.top_mul_coe_of_pos (Real.exp_pos _)]
  | coe y =>
    show ((Real.exp (y - r) : ℝ) : EReal) = ((Real.exp y : ℝ) : EReal) * _
    rw [← EReal.coe_mul, ← Real.exp_add, sub_eq_add_neg]

/-- A nonnegative real factor comes out of a finite sum. -/
theorem sum_scale {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih]
    rw [mul_comm (f a + _), EReal.left_distrib_of_nonneg_of_ne_top (EReal.coe_nonneg.2 hc) (EReal.coe_ne_top _),
      mul_comm (c : EReal), mul_comm (c : EReal)]

/-- A quotient by a guarded sum is unchanged when the numerator, the sum and the guard are scaled by one positive real. -/
theorem div_scale (E S : EReal) (g c : ℝ) (hS : 0 ≤ S) (hg : 0 < g) (hc : 0 < c) :
    Ideal.div (E * (c : EReal)) (S * (c : EReal) + (g : EReal) * (c : EReal)) = E * Ideal.div 1 (S + (g : EReal)) := by
  have hd : 0 < S + (g : EReal) := lt_of_lt_of_le (EReal.coe_pos.2 hg) (le_add_of_nonneg_left hS)
  have hfac : S * (c : EReal) + (g : EReal) * (c : EReal) = (S + (g : EReal)) * (c : EReal) := by
    rw [mul_comm (S + _), EReal.left_distrib_of_nonneg_of_ne_top (EReal.coe_nonneg.2 hc.le) (EReal.coe_ne_top _),
      mul_comm (c : EReal), mul_comm (c : EReal)]
  have hne : (S + (g : EReal)) * (c : EReal) ≠ 0 := (EReal.mul_pos hd (EReal.coe_pos.2 hc)).ne'
  have hcc : (c : EReal) * (c : EReal)⁻¹ = 1 := by
    rw [← EReal.coe_inv, ← EReal.coe_mul, mul_inv_cancel₀ hc.ne', EReal.coe_one]
  rw [hfac, Ideal.div, Ideal.div, if_neg hne, if_neg hd.ne', EReal.mul_inv, one_mul, mul_assoc,
    mul_left_comm (c : EReal), hcc, mul_one]

/-- One weight of the guarded softmax, unshifted, against the shifted one whose guard is scaled by the same shift. -/
theorem weight_shift {ι : Type} (s : Finset ι) (e : ι → EReal) (m : EReal) (hm : ∃ r : ℝ, m = (r : EReal))
    (guard : EReal) (hg : ∃ g : ℝ, 0 < g ∧ guard = (g : EReal)) (x : EReal) :
    Ideal.div (Ideal.exp (x - m)) ((∑ i ∈ s, Ideal.exp (e i - m)) + guard * Ideal.exp (-m))
      = Ideal.exp x * Ideal.div 1 ((∑ i ∈ s, Ideal.exp (e i)) + guard) := by
  obtain ⟨r, rfl⟩ := hm
  obtain ⟨g, hg, rfl⟩ := hg
  have hn : Ideal.exp (-(r : EReal)) = (Real.exp (-r) : EReal) := by rw [← EReal.coe_neg]; rfl
  rw [exp_shift, hn, Finset.sum_congr rfl fun i _ => exp_shift (e i) r, sum_scale _ _ _ (Real.exp_pos _).le]
  exact div_scale _ _ g _ (Finset.sum_nonneg fun i _ => exp_nonneg _) hg (Real.exp_pos _)

/-- The guard's pattern denotes a positive real. -/
theorem guard_pos : ∃ g : ℝ, 0 < g ∧ Ideal.ofBits .f32 0x24E69595#32 = (g : EReal) := by
  refine ⟨_, ?_, by simp [Ideal.ofBits, Ideal.ieee]; rfl⟩
  norm_num

/-- The pattern of one. -/
theorem one_pattern : Ideal.ofBits .f32 0x3F800000#32 = 1 := by
  simp [Ideal.ofBits, Ideal.ieee]
  norm_num [← EReal.coe_mul]

/-- The slope's pattern denotes a real between zero and one. -/
theorem slope_range : ∃ g : ℝ, 0 < g ∧ g < 1 ∧ Ideal.ofBits .f32 0x3E4CCCCD#32 = (g : EReal) := by
  refine ⟨_, ?_, ?_, by simp [Ideal.ofBits, Ideal.ieee]; rfl⟩
  · norm_num
  · norm_num

/-- The pattern of a half denotes a nonnegative real. -/
theorem half_real : ∃ g : ℝ, 0 ≤ g ∧ Ideal.ofBits .f32 0x3F000000#32 = (g : EReal) := by
  refine ⟨_, ?_, by simp [Ideal.ofBits, Ideal.ieee]; rfl⟩
  norm_num

/-- The pattern of plus infinity. -/
theorem top_pattern : Ideal.ofBits .f32 0x7F800000#32 = ⊤ := by
  simp [Ideal.ofBits, Ideal.ieee]

/-- The leaky rectification, by cases on the sign, is the greater of its two branches. -/
theorem leaky_eq_max (e : EReal) :
    Scalar.select (Ideal.cmp .oge e 0) e (Ideal.ofBits .f32 0x3E4CCCCD#32 * e)
      = max e (Ideal.ofBits .f32 0x3E4CCCCD#32 * e) := by
  obtain ⟨g, hg, hg1, h⟩ := slope_range
  rw [h]
  have hb : Ideal.cmp .oge e 0 = if 0 ≤ e then 1#1 else 0#1 := by
    by_cases h0 : 0 ≤ e <;> simp [Ideal.cmp, h0]
  rw [hb]
  by_cases h0 : 0 ≤ e
  · rw [if_pos h0]
    have hl : (g : EReal) * e ≤ e := by
      induction e with
      | bot => exact absurd h0 (by simp)
      | top => exact le_top
      | coe y =>
        have hy : 0 ≤ y := EReal.coe_nonneg.1 h0
        rw [← EReal.coe_mul, EReal.coe_le_coe_iff]
        nlinarith
    rw [max_eq_left hl]
    rfl
  · rw [if_neg h0]
    have hl : e ≤ (g : EReal) * e := by
      induction e with
      | bot => exact bot_le
      | top => exact absurd le_top h0
      | coe y =>
        have hy : y < 0 := by
          by_contra hn
          exact h0 (EReal.coe_nonneg.2 (not_lt.1 hn))
        rw [← EReal.coe_mul, EReal.coe_le_coe_iff]
        nlinarith
    rw [max_eq_right hl]
    rfl

/-- A value kept where its magnitude is below infinity, zero otherwise, is a real number. -/
theorem kept_real (x : EReal) : ∃ r : ℝ, Scalar.select (Ideal.cmp .olt (max x (-x)) ⊤) x 0 = (r : EReal) := by
  have hb : Ideal.cmp .olt (max x (-x)) ⊤ = if max x (-x) < ⊤ then 1#1 else 0#1 := by
    by_cases h0 : max x (-x) < ⊤ <;> simp [Ideal.cmp, h0]
  rw [hb]
  induction x with
  | bot => exact ⟨0, by rw [if_neg (by simp)]; rfl⟩
  | top => exact ⟨0, by rw [if_neg (by simp)]; rfl⟩
  | coe y =>
    refine ⟨y, ?_⟩
    rw [if_pos]
    · rfl
    · rw [← EReal.coe_neg]
      exact max_lt (EReal.coe_lt_top _) (EReal.coe_lt_top _)

/-- The mean of two biased sums is the mean of the sums plus the mean of the biases. -/
theorem mean_bias (a b p q : EReal) :
    Ideal.ofBits .f32 0x3F000000#32 * a + Ideal.ofBits .f32 0x3F000000#32 * b
        + (Ideal.ofBits .f32 0x3F000000#32 * p + Ideal.ofBits .f32 0x3F000000#32 * q)
      = Ideal.ofBits .f32 0x3F000000#32 * (a + p) + Ideal.ofBits .f32 0x3F000000#32 * (b + q) := by
  obtain ⟨g, hg, h⟩ := half_real
  rw [h, EReal.left_distrib_of_nonneg_of_ne_top (EReal.coe_nonneg.2 hg) (EReal.coe_ne_top _),
    EReal.left_distrib_of_nonneg_of_ne_top (EReal.coe_nonneg.2 hg) (EReal.coe_ne_top _)]
  exact add_add_add_comm _ _ _ _

end Cert.Proof.Softmax

end
-- ==== Proof.Edges.lean ====
/- One direction of the attention, written element by element over the edges: the row an index word reads, the score of
   an edge, the edges into a node, and the node's weighted sum in the unshifted and in the shifted form. The two forms
   are equal, whatever real number each node and head is shifted by. -/
module

public import proofs.«01_k».proof.Proof.Tables
public import proofs.«01_k».proof.Proof.Softmax

@[expose] public section

noncomputable section

namespace Cert.Proof.Edges

open Idealize.ShloMosaic Cert.Proof.Tables Cert.Proof.Softmax
open scoped BigOperators

/-- An index word, a negative one counted from the end of the table. -/
def wrapWord (b : BitVec 32) : BitVec 32 := Scalar.select (IntOp.cmpi .slt b 0#32) (IntOp.addi b 10000#32) b

/-- The row of the node table that an index word reads. -/
def rowOf (b : BitVec 32) : Fin 10000 := clampRow 10000 (by omega) (wrapWord b)

/-- A word that is a node's number reads that node's row. -/
theorem rowOf_of_toInt (b : BitVec 32) (n : Fin 10000) (h : b.toInt = (n.val : ℤ)) : rowOf b = n := by
  have hw : wrapWord b = b := by
    have h0 : ¬ b.toInt < 0 := by omega
    have hs : IntOp.cmpi .slt b 0#32 = 0#1 := by
      simp [IntOp.cmpi, BitVec.slt, h0]
    rw [wrapWord, hs]
    rfl
  rw [rowOf, hw]
  exact clampRow_of_toInt _ b n h

/-- The edges into a node. -/
def into (dst : Fin 320000 → BitVec 32) (n : Fin 10000) : Finset (Fin 320000) :=
  Finset.univ.filter (fun k => (dst k).toInt = (n.val : ℤ))

theorem row_of_mem {dst : Fin 320000 → BitVec 32} {n : Fin 10000} {k : Fin 320000} (h : k ∈ into dst n) : rowOf (dst k) = n :=
  rowOf_of_toInt _ _ (Finset.mem_filter.1 h).2

/-- The score of edge `k` at head `h`: the rectified sum of its source's and its target's scores. -/
def score (s d : Fin 10000 → Fin 8 → EReal) (src dst : Fin 320000 → BitVec 32) (k : Fin 320000) (h : Fin 8) : EReal :=
  max (s (rowOf (src k)) h + d (rowOf (dst k)) h)
    (Ideal.ofBits .f32 0x3E4CCCCD#32 * (s (rowOf (src k)) h + d (rowOf (dst k)) h))

/-- A node's weighted sum of its neighbours' features, the weights from the unshifted exponentials. -/
def gathered (f : Fin 10000 → Fin 8 → Fin 16 → EReal) (s d : Fin 10000 → Fin 8 → EReal) (src dst : Fin 320000 → BitVec 32)
    (n : Fin 10000) (h : Fin 8) (c : Fin 16) : EReal :=
  ∑ k ∈ into dst n, f (rowOf (src k)) h c
    * (Ideal.exp (score s d src dst k h)
      * Ideal.div 1 ((∑ k' ∈ into dst (rowOf (dst k)), Ideal.exp (score s d src dst k' h)) + Ideal.ofBits .f32 0x24E69595#32))

/-- The same sum with each node's scores shifted by `m`, and the guard scaled by the same shift. -/
def shifted (m : Fin 10000 → Fin 8 → EReal) (f : Fin 10000 → Fin 8 → Fin 16 → EReal) (s d : Fin 10000 → Fin 8 → EReal)
    (src dst : Fin 320000 → BitVec 32) (n : Fin 10000) (h : Fin 8) (c : Fin 16) : EReal :=
  ∑ k ∈ into dst n, f (rowOf (src k)) h c
    * Ideal.div (Ideal.exp (score s d src dst k h - m (rowOf (dst k)) h))
        ((∑ k' ∈ into dst (rowOf (dst k)), Ideal.exp (score s d src dst k' h - m (rowOf (dst k')) h))
          + Ideal.ofBits .f32 0x24E69595#32 * Ideal.exp (-m (rowOf (dst k)) h))

/-- The shift changes nothing, as long as it is a real number at every node and head. -/
theorem shifted_eq (m : Fin 10000 → Fin 8 → EReal) (hm : ∀ n h, ∃ r : ℝ, m n h = (r : EReal))
    (f : Fin 10000 → Fin 8 → Fin 16 → EReal) (s d : Fin 10000 → Fin 8 → EReal) (src dst : Fin 320000 → BitVec 32)
    (n : Fin 10000) (h : Fin 8) (c : Fin 16) :
    shifted m f s d src dst n h c = gathered f s d src dst n h c := by
  unfold shifted gathered
  refine Finset.sum_congr rfl fun k hk => congrArg (f (rowOf (src k)) h c * ·) ?_
  rw [row_of_mem hk]
  have e : ∑ k' ∈ into dst n, Ideal.exp (score s d src dst k' h - m (rowOf (dst k')) h)
      = ∑ k' ∈ into dst n, Ideal.exp (score s d src dst k' h - m n h) :=
    Finset.sum_congr rfl fun k' hk' => by rw [row_of_mem hk']
  rw [e]
  exact weight_shift (into dst n) (fun k' => score s d src dst k' h) (m n h) (hm n h) _ guard_pos _

end Cert.Proof.Edges

end
-- ==== Proof.KernelDir.lean ====
/- One direction of the kernel at an element and over the extended reals: the unshifted weighted sum of `Edges`, whatever
   features, scores and node indices it is given. -/
module

public import proofs.«01_k».proof.Proof.HostLine
public import proofs.«01_k».proof.Proof.Edges
public import proofs.«01_k».proof.Proof.Heads
public import Idealize.ShloMosaic.Lib.Pipeline.Value

@[expose] public section

set_option maxRecDepth 16384

noncomputable section

namespace Cert.Proof.KernelDir

open Cert.KernelIdeal Cert.KernelIdeal.Gen Idealize.ShloMosaic Idealize.ShloMosaic.ValueIdx
open Cert.Proof.HostLine Cert.Proof.Tables Cert.Proof.Softmax Cert.Proof.Edges Cert.Proof.Heads
open scoped BigOperators

theorem column_apply (v : Vec Ideal S320000 .i32) (k : Fin 320000) : column v (ix2 k (0 : Fin 1)) = v (ix1 k) := by
  unfold column
  exact broadcastInDim_apply _ bcast_S320000_S320000x1_0 v _ (ix1 k) (fun a => match a with | ⟨0, _⟩ => rfl)

theorem wrapped_apply (v : Vec Ideal S320000 .i32) (k : Fin 320000) : wrapped v (ix1 k) = wrapWord (v (ix1 k)) := rfl

theorem pair_fst (a b : Vec Ideal S320000x1 .i32) (k : Fin 320000) : pairCol a b (ix2 k (0 : Fin 2)) = a (ix2 k (0 : Fin 1)) := by
  unfold pairCol
  exact concatenate_pair_apply_left 1 a b concatenates_S320000x1_S320000x1_S320000x2_d1 (ix2 k (0 : Fin 2)) rfl (ix2 k (0 : Fin 1))
    (fun b => match b with | ⟨0, _⟩ => rfl | ⟨1, _⟩ => rfl)

theorem pair_snd (a b : Vec Ideal S320000x1 .i32) (k : Fin 320000) : pairCol a b (ix2 k (1 : Fin 2)) = b (ix2 k (0 : Fin 1)) := by
  unfold pairCol
  exact concatenate_pair_apply_right 1 a b concatenates_S320000x1_S320000x1_S320000x2_d1 (ix2 k (1 : Fin 2)) rfl rfl (ix2 k (0 : Fin 1))
    (fun b hb => match b with | ⟨0, _⟩ => rfl | ⟨1, _⟩ => absurd rfl hb) rfl

/-- Eight scores of an edge, from the score columns starting at the constant `b`. -/
theorem pick_apply (ac : Vec Ideal S10000x16 .f32) (v : Vec Ideal S320000 .i32) (b : BitVec 32) (k : Fin 320000) (h : Fin 8)
    (c : Fin 16) (hc : c.val = min b.toInt.toNat 8 + h.val) :
    pick ac (pairCol (column (wrapped v)) (constCol b)) (ix2 k h) = ac (ix2 (rowOf (v (ix1 k))) c) := by
  unfold pick
  have hs : (pairCol (column (wrapped v)) (constCol (F := Ideal) b)) (ix2 k (1 : Fin 2)) = b := by rw [pair_snd]; rfl
  have hf : (pairCol (column (wrapped v)) (constCol (F := Ideal) b)) (ix2 k (0 : Fin 2)) = wrapWord (v (ix1 k)) := by
    rw [pair_fst, column_apply, wrapped_apply]
  refine (spanGather_apply (N := 10000) (E := 320000) (C := 16) (K := 8) (by omega) _ ac
    (pairCol (column (wrapped v)) (constCol b)) k h c (by rw [hs]; exact hc)).trans ?_
  rw [hf]
  rfl

theorem expScore_apply (a b : Vec Ideal S320000x8 .f32) (i : S320000x8.Idx) :
    expScore a b i = Ideal.exp (max (a i + b i : EReal) (Ideal.ofBits .f32 0x3E4CCCCD#32 * (a i + b i))) := rfl

/-- The exponential of an edge's score. -/
theorem dirExp_apply (ac : Vec Ideal S10000x16 .f32) (s d : Fin 10000 → Fin 8 → EReal)
    (hs : ∀ (n : Fin 10000) (h : Fin 8) (c : Fin 16), c.val = h.val → ac (ix2 n c) = s n h)
    (hd : ∀ (n : Fin 10000) (h : Fin 8) (c : Fin 16), c.val = 8 + h.val → ac (ix2 n c) = d n h)
    (src dst : Vec Ideal S320000 .i32) (k : Fin 320000) (h : Fin 8) :
    dirExp ac src dst (ix2 k h) = Ideal.exp (score s d (fun k => src (ix1 k)) (fun k => dst (ix1 k)) k h) := by
  have hl := h.isLt
  have e0 : (0#32 : BitVec 32).toInt.toNat = 0 := by decide
  have e8 : (8#32 : BitVec 32).toInt.toNat = 8 := by decide
  unfold dirExp
  rw [expScore_apply,
    pick_apply ac src 0#32 k h ⟨h.val, by omega⟩ (by rw [e0]; show h.val = min 0 8 + h.val; omega),
    pick_apply ac dst 8#32 k h ⟨8 + h.val, by omega⟩ (by rw [e8]; show 8 + h.val = min 8 8 + h.val; omega),
    hs _ h _ rfl, hd _ h _ rfl]
  rfl

theorem zeros8 (i : S10000x8.Idx) :
    (broadcastInDim S10000x8 ![] bcast_S_S10000x8 (constant (F := Ideal) S_ .f32 0x00000000#32)) i = (0 : EReal) :=
  Ideal.ofBits_zero_f32

theorem zeros128 (i : S10000x128.Idx) :
    (broadcastInDim S10000x128 ![] bcast_S_S10000x128 (constant (F := Ideal) S_ .f32 0x00000000#32)) i = (0 : EReal) :=
  Ideal.ofBits_zero_f32

theorem quot_apply (a b : FVec Ideal S10000x8 .f32) (i : S10000x8.Idx) : Host.divf a b i = Ideal.div (a i) (b i) := rfl

theorem recip_apply (ex : Vec Ideal S320000x8 .f32) (dst : Vec Ideal S320000 .i32) (n : Fin 10000) (h : Fin 8) :
    recip ex dst (ix2 n h)
      = Ideal.div 1 ((∑ k ∈ into (fun k => dst (ix1 k)) n, (ex (ix2 k h) : EReal)) + Ideal.ofBits .f32 0x24E69595#32) := by
  have one : (broadcastInDim S10000x8 ![] bcast_S_S10000x8 (constant (F := Ideal) S_ .f32 0x3F800000#32)) (ix2 n h) = (1 : EReal) :=
    one_pattern
  have g : (broadcastInDim S10000x8 ![] bcast_S_S10000x8 (constant (F := Ideal) S_ .f32 0x24E69595#32)) (ix2 n h)
      = Ideal.ofBits .f32 0x24E69595#32 := rfl
  unfold recip
  refine (quot_apply _ _ _).trans ?_
  rw [addf_apply, one, g]
  refine congrArg (fun t : EReal => Ideal.div 1 (t + Ideal.ofBits .f32 0x24E69595#32)) ?_
  refine (rowScatter_apply (N := 10000) (E := 320000) (C := 8) _ _ (column dst) ex n h).trans ?_
  rw [zeros8, zero_add]
  simp only [column_apply]
  rfl

theorem weight_apply (ex : Vec Ideal S320000x8 .f32) (r : Vec Ideal S10000x8 .f32) (dst : Vec Ideal S320000 .i32)
    (k : Fin 320000) (h : Fin 8) : weight ex r dst (ix2 k h) = (ex (ix2 k h) : EReal) * r (ix2 (rowOf (dst (ix1 k))) h) := by
  unfold weight
  rw [mulf_apply]
  refine congrArg ((ex (ix2 k h) : EReal) * ·) ?_
  refine (rowGather_apply (N := 10000) (E := 320000) (C := 8) (by omega) _ r (column (wrapped dst)) k h).trans ?_
  rw [column_apply, wrapped_apply]
  rfl

theorem collect_apply (f : Vec Ideal S10000x128 .f32) (al : Vec Ideal S320000x8 .f32) (src dst : Vec Ideal S320000 .i32)
    (n : Fin 10000) (h : Fin 8) (c : Fin 16) :
    collect f al src dst (ix2 n (join h c))
      = ∑ k ∈ into (fun k => dst (ix1 k)) n, (f (ix2 (rowOf (src (ix1 k))) (join h c)) : EReal) * al (ix2 k h) := by
  unfold collect
  refine (rowScatter_apply (N := 10000) (E := 320000) (C := 128) _ _ (column dst) _ n (join h c)).trans ?_
  rw [zeros128, zero_add]
  simp only [column_apply]
  refine Finset.sum_congr rfl fun k _ => ?_
  refine (shapeCast_apply _ shapeCasts_S320000x8x16_S320000x128 (ix2 k (join h c)) (ix3 k h c)
    (by rw [Shape.rowMajor_val_three, Shape.rowMajor_val_two]
        show (k.val * 8 + h.val) * 16 + c.val = k.val * 128 + (16 * h.val + c.val); omega)).trans ?_
  rw [mulf_apply]
  rw [broadcastInDim_apply _ bcast_S320000x8x1_S320000x8x16_0_1_2 _ (ix3 k h c) (ix3 k h (0 : Fin 1))
    (fun a => match a with | ⟨0, _⟩ => rfl | ⟨1, _⟩ => rfl | ⟨2, _⟩ => rfl)]
  rw [broadcastInDim_apply _ bcast_S320000x8_S320000x8x1_0_1 al (ix3 k h (0 : Fin 1)) (ix2 k h)
    (fun a => match a with | ⟨0, _⟩ => rfl | ⟨1, _⟩ => rfl)]
  refine congrArg (· * (al (ix2 k h) : EReal)) ?_
  refine (shapeCast_apply _ shapeCasts_S320000x128_S320000x8x16 (ix3 k h c) (ix2 k (join h c))
    (by rw [Shape.rowMajor_val_three, Shape.rowMajor_val_two]
        show k.val * 128 + (16 * h.val + c.val) = (k.val * 8 + h.val) * 16 + c.val; omega)).trans ?_
  refine (rowGather_apply (N := 10000) (E := 320000) (C := 128) (by omega) _ f (column (wrapped src)) k (join h c)).trans ?_
  rw [column_apply, wrapped_apply]
  rfl

/-- One direction of the kernel at a node, a head and a channel: the unshifted weighted sum. -/
theorem dirOut_apply (f : Vec Ideal S10000x128 .f32) (ac : Vec Ideal S10000x16 .f32) (s d : Fin 10000 → Fin 8 → EReal)
    (hs : ∀ (n : Fin 10000) (h : Fin 8) (c : Fin 16), c.val = h.val → ac (ix2 n c) = s n h)
    (hd : ∀ (n : Fin 10000) (h : Fin 8) (c : Fin 16), c.val = 8 + h.val → ac (ix2 n c) = d n h)
    (src dst : Vec Ideal S320000 .i32) (n : Fin 10000) (h : Fin 8) (c : Fin 16) :
    dirOut f ac src dst (ix2 n (join h c))
      = gathered (fun n h c => f (ix2 n (join h c))) s d (fun k => src (ix1 k)) (fun k => dst (ix1 k)) n h c := by
  unfold dirOut
  rw [collect_apply]
  unfold gathered
  refine Finset.sum_congr rfl fun k _ => ?_
  rw [weight_apply, recip_apply]
  simp only [dirExp_apply ac s d hs hd]

end Cert.Proof.KernelDir

end
-- ==== Proof.RefScore.lean ====
/- The reference's features, attention scores and node indices, at an element and over the extended reals. -/
module

public import proofs.«01_k».proof.Proof.Gen.ReferenceIdeal.Read
public import proofs.«01_k».proof.Proof.Heads
public import Idealize.ShloMosaic.Lib.Pipeline.Value
public import Idealize.ShloMosaic.PureOps.Ideal.Laws

@[expose] public section

set_option maxRecDepth 16384

noncomputable section

namespace Cert.Proof.RefScore

open Cert.ReferenceIdeal Cert.ReferenceIdeal.Gen Cert.ReferenceIdeal.Read Idealize.ShloMosaic Idealize.ShloMosaic.ValueIdx
open Cert.Proof.Heads
open scoped BigOperators

variable (x : Vec Ideal S10000x128 .f32) (e : Vec Ideal S2x320000 .i32) (w : Vec Ideal S128x128 .f32) (a : Vec Ideal S8x16 .f32)

/-! ## Features -/

theorem dot_apply (n : Fin 10000) (j : Fin 128) : val_main_v0 (F := Ideal) x w (ix2 n j) = feat x w n j := by
  rw [val_main_v0_apply]
  refine Finset.sum_congr rfl fun k _ => congrArg₂ (fun p q : EReal => p * q) (congrArg x ?_) (congrArg w ?_)
  · exact funext fun a => match a with | ⟨0, _⟩ => rfl | ⟨1, _⟩ => rfl
  · exact funext fun a => match a with | ⟨0, _⟩ => rfl | ⟨1, _⟩ => rfl

theorem feat_first (n : Fin 10000) (h : Fin 8) (c : Fin 16) :
    val_main_v1 (F := Ideal) x w (ix3 n h c) = feat x w n (join h c) := by
  unfold val_main_v1
  refine (shapeCast_apply _ shapeCasts_S10000x128_S10000x8x16 (ix3 n h c) (ix2 n (join h c))
    (by rw [Shape.rowMajor_val_three, Shape.rowMajor_val_two]
        show n.val * 128 + (16 * h.val + c.val) = (n.val * 8 + h.val) * 16 + c.val; omega)).trans ?_
  exact dot_apply x w n (join h c)

theorem feat_second (n : Fin 10000) (h : Fin 8) (c : Fin 16) :
    val_main_v101 (F := Ideal) x w (ix3 n h c) = feat x w n (join h c) := feat_first x w n h c

/-! ## Scores -/

theorem att_first_src (n : Fin 10000) (h : Fin 8) : val_main_v9 (F := Ideal) x w a (ix2 n h) = att x w a n h := by
  rw [val_main_v9_apply]
  have z : (val_main_cst (F := Ideal)) (Shape.Idx.first h_S_) = (0 : EReal) := Ideal.ofBits_zero_f32
  rw [z, zero_add]
  refine Finset.sum_congr rfl fun c _ => ?_
  have hi : idx_main_v9 (ix2 n h) c = ix3 n h c := funext fun a => match a with | ⟨0, _⟩ => rfl | ⟨1, _⟩ => rfl | ⟨2, _⟩ => rfl
  rw [hi]
  unfold val_main_v8
  rw [mulf_apply, feat_first, val_main_v7_apply, val_main_v6_apply]
  refine congrArg (feat x w n (join h c) * ·) (congrArg a ?_)
  exact funext fun a => match a with | ⟨0, _⟩ => rfl | ⟨1, _⟩ => rfl

theorem att_first_dst (n : Fin 10000) (h : Fin 8) : val_main_v13 (F := Ideal) x w a (ix2 n h) = att x w a n h :=
  att_first_src x w a n h

theorem att_second_src (n : Fin 10000) (h : Fin 8) : val_main_v109 (F := Ideal) x w a (ix2 n h) = att x w a n h :=
  att_first_src x w a n h

theorem att_second_dst (n : Fin 10000) (h : Fin 8) : val_main_v113 (F := Ideal) x w a (ix2 n h) = att x w a n h :=
  att_first_src x w a n h

/-! ## Node indices: the second direction reads the edge table's rows exchanged -/

theorem row_first (k : Fin 320000) : val_main_v3 (F := Ideal) e (ix1 k) = e (ix2 (0 : Fin 2) k) := by
  rw [val_main_v3_apply, val_main_v2_apply]
  refine congrArg e (funext fun a => Fin.ext ?_)
  have := k.isLt
  match a with
  | ⟨0, _⟩ => rfl
  | ⟨1, _⟩ => show k.val % 320000 = k.val; omega

theorem row_second (k : Fin 320000) : val_main_v5 (F := Ideal) e (ix1 k) = e (ix2 (1 : Fin 2) k) := by
  rw [val_main_v5_apply, val_main_v4_apply]
  refine congrArg e (funext fun a => Fin.ext ?_)
  have := k.isLt
  match a with
  | ⟨0, _⟩ => rfl
  | ⟨1, _⟩ => show k.val % 320000 = k.val; omega

theorem stack_fst (k : Fin 320000) : val_main_v99 (F := Ideal) e (ix2 (0 : Fin 2) k) = e (ix2 (1 : Fin 2) k) := by
  unfold val_main_v99
  refine (concatenate_pair_apply_left 0 (val_main_v97 (F := Ideal) e) (val_main_v98 (F := Ideal) e)
    concatenates_S1x320000_S1x320000_S2x320000_d0 (ix2 (0 : Fin 2) k) rfl (ix2 (0 : Fin 1) k)
    (fun b => match b with | ⟨0, _⟩ => rfl | ⟨1, _⟩ => rfl)).trans ?_
  rw [val_main_v97_apply]
  refine Eq.trans (congrArg (val_main_v94 (F := Ideal) e) ?_) (row_second e k)
  exact funext fun a => match a with | ⟨0, _⟩ => rfl

theorem stack_snd (k : Fin 320000) : val_main_v99 (F := Ideal) e (ix2 (1 : Fin 2) k) = e (ix2 (0 : Fin 2) k) := by
  unfold val_main_v99
  refine (concatenate_pair_apply_right 0 (val_main_v97 (F := Ideal) e) (val_main_v98 (F := Ideal) e)
    concatenates_S1x320000_S1x320000_S2x320000_d0 (ix2 (1 : Fin 2) k) rfl rfl (ix2 (0 : Fin 1) k)
    (fun b hb => match b with | ⟨0, _⟩ => absurd rfl hb | ⟨1, _⟩ => rfl) rfl).trans ?_
  rw [val_main_v98_apply]
  refine Eq.trans (congrArg (val_main_v96 (F := Ideal) e) ?_) (row_first e k)
  exact funext fun a => match a with | ⟨0, _⟩ => rfl

theorem row_third (k : Fin 320000) : val_main_v103 (F := Ideal) e (ix1 k) = e (ix2 (1 : Fin 2) k) :=
  (row_first (val_main_v99 (F := Ideal) e) k).trans (stack_fst e k)

theorem row_fourth (k : Fin 320000) : val_main_v105 (F := Ideal) e (ix1 k) = e (ix2 (0 : Fin 2) k) :=
  (row_second (val_main_v99 (F := Ideal) e) k).trans (stack_snd e k)

end Cert.Proof.RefScore

end
-- ==== Proof.RefDir.lean ====
/- One direction of the reference, stage by stage and then at an element: the reference's two directions are the same
   function of their features, their two score tables and the two lists of node indices. -/
module

public import proofs.«01_k».proof.Proof.Gen.ReferenceIdeal.Read
public import proofs.«01_k».proof.Proof.Edges
public import Idealize.ShloMosaic.Lib.Pipeline.Value

@[expose] public section

set_option maxRecDepth 16384

noncomputable section

namespace Cert.Proof.RefDir

open Cert.ReferenceIdeal Cert.ReferenceIdeal.Gen Idealize.ShloMosaic Idealize.ShloMosaic.ValueIdx
open Cert.Proof.Tables Cert.Proof.Softmax Cert.Proof.Edges
open scoped BigOperators

/-! ## The stages -/

section Stages
variable {F : FTy → Type} [FloatOps F]

/-- A list of words as a one-column table. -/
def col (v : Vec F S320000 .i32) : Vec F S320000x1 .i32 := broadcastInDim S320000x1 ![0] bcast_S320000_S320000x1_0 v
/-- The row indices that the list of words reads. -/
def wcol (v : Vec F S320000 .i32) : Vec F S320000x1 .i32 :=
  col (select (cmpi .slt v (broadcastInDim S320000 ![] bcast_S_S320000 (constantI S_ 32 0#32)))
    (addi v (broadcastInDim S320000 ![] bcast_S_S320000 (constantI S_ 32 10000#32))) v)
/-- A node table read at a list of nodes. -/
def rows (x : Vec F S10000x8 .f32) (v : Vec F S320000 .i32) : Vec F S320000x8 .f32 :=
  Host.gather gather_S10000x8_S320000x1_S320000x8_1_0_n_n_0_1_18 x (wcol v)
/-- The leaky rectification. -/
def leaky (x : Vec F S320000x8 .f32) : Vec F S320000x8 .f32 :=
  select (cmpf .oge x (broadcastInDim S320000x8 ![] bcast_S_S320000x8 (constant S_ .f32 0x00000000#32))) x
    (mulf (broadcastInDim S320000x8 ![] bcast_S_S320000x8 (id (constant S_ .f32 0x3E4CCCCD#32))) x)
/-- The edges' scores. -/
def edge (s d : Vec F S10000x8 .f32) (src dst : Vec F S320000 .i32) : Vec F S320000x8 .f32 :=
  leaky (addf (rows s src) (rows d dst))
/-- The shift: the given maximum where its magnitude is below infinity, zero elsewhere. -/
def keep (raw : Vec F S10000x8 .f32) : Vec F S10000x8 .f32 :=
  select (cmpf .olt (Host.absf raw) (broadcastInDim S10000x8 ![] bcast_S_S10000x8 (constant S_ .f32 0x7F800000#32))) raw
    (broadcastInDim S10000x8 ![] bcast_S_S10000x8 (id (constant S_ .f32 0x00000000#32)))
/-- The shifted exponentials. -/
def expo (raw s d : Vec F S10000x8 .f32) (src dst : Vec F S320000 .i32) : Vec F S320000x8 .f32 :=
  Host.exp (subf (edge s d src dst) (rows (keep raw) dst))
/-- Their sums over the edges into each node. -/
def total (ex : Vec F S320000x8 .f32) (dst : Vec F S320000 .i32) : Vec F S10000x8 .f32 :=
  Host.scatterAdd scatter_S10000x8_S320000x1_S320000x8_1_0_0_1
    (broadcastInDim S10000x8 ![] bcast_S_S10000x8 (constant S_ .f32 0x00000000#32)) (col dst) ex
/-- The weights. -/
def alpha (raw s d : Vec F S10000x8 .f32) (src dst : Vec F S320000 .i32) : Vec F S320000x8 .f32 :=
  Host.divf (expo raw s d src dst)
    (addf (rows (total (expo raw s d src dst) dst) dst)
      (mulf (broadcastInDim S320000x8 ![] bcast_S_S320000x8 (constant S_ .f32 0x24E69595#32))
        (Host.exp (Host.negf (rows (keep raw) dst)))))
/-- The weighted sums of the features into each node. -/
def refDir (raw : Vec F S10000x8 .f32) (f : Vec F S10000x8x16 .f32) (s d : Vec F S10000x8 .f32)
    (src dst : Vec F S320000 .i32) : Vec F S10000x8x16 .f32 :=
  Host.scatterAdd scatter_S10000x8x16_S320000x1_S320000x8x16_12_0_0_1
    (broadcastInDim S10000x8x16 ![] bcast_S_S10000x8x16 (constant S_ .f32 0x00000000#32)) (col dst)
    (mulf (Host.gather gather_S10000x8x16_S320000x1_S320000x8x16_12_0_n_n_0_1_1816 f (wcol src))
      (broadcastInDim S320000x8x16 ![0, 1, 2] bcast_S320000x8x1_S320000x8x16_0_1_2
        (broadcastInDim S320000x8x1 ![0, 1] bcast_S320000x8_S320000x8x1_0_1 (alpha raw s d src dst))))

end Stages

/-! ## The stages at an element -/

theorem col_apply (v : Vec Ideal S320000 .i32) (k : Fin 320000) : col v (ix2 k (0 : Fin 1)) = v (ix1 k) := by
  unfold col
  exact broadcastInDim_apply _ _ v _ (ix1 k) (fun a => match a with | ⟨0, _⟩ => rfl)

theorem wcol_apply (v : Vec Ideal S320000 .i32) (k : Fin 320000) : wcol v (ix2 k (0 : Fin 1)) = wrapWord (v (ix1 k)) := by
  unfold wcol
  rw [col_apply]
  rfl

theorem rows_apply (x : Vec Ideal S10000x8 .f32) (v : Vec Ideal S320000 .i32) (k : Fin 320000) (h : Fin 8) :
    rows x v (ix2 k h) = x (ix2 (rowOf (v (ix1 k))) h) := by
  unfold rows
  refine (rowGather_apply (by omega) _ x (wcol v) k h).trans ?_
  rw [wcol_apply]
  rfl

theorem leaky_apply (x : Vec Ideal S320000x8 .f32) (i : S320000x8.Idx) :
    leaky x i = max (x i) (Ideal.ofBits .f32 0x3E4CCCCD#32 * x i) := by
  refine Eq.trans ?_ (leaky_eq_max (x i))
  show Scalar.select (Ideal.cmp .oge (x i) (Ideal.ofBits .f32 0x00000000#32)) (x i) (Ideal.ofBits .f32 0x3E4CCCCD#32 * x i) = _
  rw [Ideal.ofBits_zero_f32]

theorem keep_real (raw : Vec Ideal S10000x8 .f32) (i : S10000x8.Idx) : ∃ r : ℝ, keep raw i = (r : EReal) := by
  obtain ⟨r, hr⟩ := kept_real (raw i)
  refine ⟨r, Eq.trans ?_ hr⟩
  show Scalar.select (Ideal.cmp .olt (max (raw i) (-(raw i))) (Ideal.ofBits .f32 0x7F800000#32)) (raw i)
    (Ideal.ofBits .f32 0x00000000#32) = _
  rw [top_pattern, Ideal.ofBits_zero_f32]

theorem edge_apply (s d : Vec Ideal S10000x8 .f32) (src dst : Vec Ideal S320000 .i32) (k : Fin 320000) (h : Fin 8) :
    edge s d src dst (ix2 k h)
      = score (fun n h => s (ix2 n h)) (fun n h => d (ix2 n h)) (fun k => src (ix1 k)) (fun k => dst (ix1 k)) k h := by
  unfold edge
  rw [leaky_apply, addf_apply, rows_apply, rows_apply]
  rfl

theorem expo_apply (raw s d : Vec Ideal S10000x8 .f32) (src dst : Vec Ideal S320000 .i32) (k : Fin 320000) (h : Fin 8) :
    expo raw s d src dst (ix2 k h)
      = Ideal.exp (score (fun n h => s (ix2 n h)) (fun n h => d (ix2 n h)) (fun k => src (ix1 k)) (fun k => dst (ix1 k)) k h
          - keep raw (ix2 (rowOf (dst (ix1 k))) h)) := by
  show Ideal.exp (edge s d src dst (ix2 k h) - rows (keep raw) dst (ix2 k h)) = _
  rw [edge_apply, rows_apply]

theorem total_apply (ex : Vec Ideal S320000x8 .f32) (dst : Vec Ideal S320000 .i32) (n : Fin 10000) (h : Fin 8) :
    total ex dst (ix2 n h) = ∑ k ∈ into (fun k => dst (ix1 k)) n, ex (ix2 k h) := by
  unfold total
  refine (rowScatter_apply _ _ (col dst) ex n h).trans ?_
  have z : (broadcastInDim S10000x8 ![] bcast_S_S10000x8 (constant (F := Ideal) S_ .f32 0x00000000#32)) (ix2 n h) = (0 : EReal) :=
    Ideal.ofBits_zero_f32
  rw [z, zero_add]
  simp only [col_apply]
  rfl

theorem quot_apply (a b : FVec Ideal S320000x8 .f32) (i : S320000x8.Idx) : Host.divf a b i = Ideal.div (a i) (b i) := rfl

theorem alpha_apply (raw s d : Vec Ideal S10000x8 .f32) (src dst : Vec Ideal S320000 .i32) (k : Fin 320000) (h : Fin 8) :
    alpha raw s d src dst (ix2 k h)
      = Ideal.div (expo raw s d src dst (ix2 k h))
          ((∑ k' ∈ into (fun k => dst (ix1 k)) (rowOf (dst (ix1 k))), expo raw s d src dst (ix2 k' h))
            + Ideal.ofBits .f32 0x24E69595#32 * Ideal.exp (-keep raw (ix2 (rowOf (dst (ix1 k))) h))) := by
  have g : (broadcastInDim S320000x8 ![] bcast_S_S320000x8 (constant (F := Ideal) S_ .f32 0x24E69595#32)) (ix2 k h)
      = Ideal.ofBits .f32 0x24E69595#32 := rfl
  have x : (Host.exp (Host.negf (rows (keep raw) dst))) (ix2 k h) = Ideal.exp (-rows (keep raw) dst (ix2 k h)) := rfl
  unfold alpha
  refine (quot_apply _ _ _).trans ?_
  rw [addf_apply, mulf_apply, g, x]
  rw [rows_apply, rows_apply, total_apply]

theorem spread_apply (al : Vec Ideal S320000x8 .f32) (k : Fin 320000) (h : Fin 8) (c : Fin 16) :
    (broadcastInDim S320000x8x16 ![0, 1, 2] bcast_S320000x8x1_S320000x8x16_0_1_2
        (broadcastInDim S320000x8x1 ![0, 1] bcast_S320000x8_S320000x8x1_0_1 al)) (ix3 k h c) = al (ix2 k h) := by
  rw [broadcastInDim_apply _ bcast_S320000x8x1_S320000x8x16_0_1_2 _ (ix3 k h c) (ix3 k h (0 : Fin 1))
      (fun a => match a with | ⟨0, _⟩ => rfl | ⟨1, _⟩ => rfl | ⟨2, _⟩ => rfl)]
  exact broadcastInDim_apply _ bcast_S320000x8_S320000x8x1_0_1 al (ix3 k h (0 : Fin 1)) (ix2 k h)
      (fun a => match a with | ⟨0, _⟩ => rfl | ⟨1, _⟩ => rfl)

/-- One direction of the reference at a node, a head and a channel: the shifted weighted sum. -/
theorem refDir_apply (raw : Vec Ideal S10000x8 .f32) (f : Vec Ideal S10000x8x16 .f32) (s d : Vec Ideal S10000x8 .f32)
    (src dst : Vec Ideal S320000 .i32) (n : Fin 10000) (h : Fin 8) (c : Fin 16) :
    refDir raw f s d src dst (ix3 n h c)
      = shifted (fun n h => keep raw (ix2 n h)) (fun n h c => f (ix3 n h c)) (fun n h => s (ix2 n h)) (fun n h => d (ix2 n h))
          (fun k => src (ix1 k)) (fun k => dst (ix1 k)) n h c := by
  unfold refDir
  refine (slabScatter_apply _ _ (col dst) _ n h c).trans ?_
  have z : (broadcastInDim S10000x8x16 ![] bcast_S_S10000x8x16 (constant (F := Ideal) S_ .f32 0x00000000#32)) (ix3 n h c)
      = (0 : EReal) := Ideal.ofBits_zero_f32
  rw [z, zero_add]
  simp only [col_apply]
  unfold shifted
  refine Finset.sum_congr rfl fun k _ => ?_
  rw [mulf_apply, spread_apply, alpha_apply]
  simp only [expo_apply]
  congr 1
  refine (slabGather_apply (by omega) _ f (wcol src) k h c).trans ?_
  rw [wcol_apply]
  rfl

/-- One direction of the reference is the unshifted weighted sum. -/
theorem refDir_eq (raw : Vec Ideal S10000x8 .f32) (f : Vec Ideal S10000x8x16 .f32) (s d : Vec Ideal S10000x8 .f32)
    (src dst : Vec Ideal S320000 .i32) (n : Fin 10000) (h : Fin 8) (c : Fin 16) :
    refDir raw f s d src dst (ix3 n h c)
      = gathered (fun n h c => f (ix3 n h c)) (fun n h => s (ix2 n h)) (fun n h => d (ix2 n h))
          (fun k => src (ix1 k)) (fun k => dst (ix1 k)) n h c := by
  rw [refDir_apply]
  exact shifted_eq _ (fun n h => keep_real raw (ix2 n h)) _ _ _ _ _ n h c

/-! ## The reference's two directions -/

open Cert.ReferenceIdeal.Read

variable (x0 : Vec Ideal S10000x128 .f32) (x1 : Vec Ideal S2x320000 .i32) (x2 x6 : Vec Ideal S128x128 .f32)
  (x3 x4 x7 x8 : Vec Ideal S8x16 .f32)

theorem first_dir : val_main_v88 (F := Ideal) x0 x1 x2 x3 x4
    = refDir (val_main_v39 (F := Ideal) x0 x1 x2 x3 x4) (val_main_v1 (F := Ideal) x0 x2) (val_main_v9 (F := Ideal) x0 x2 x3)
        (val_main_v13 (F := Ideal) x0 x2 x4) (val_main_v3 (F := Ideal) x1) (val_main_v5 (F := Ideal) x1) := rfl

theorem second_dir : val_main_v188 (F := Ideal) x0 x1 x6 x7 x8
    = refDir (val_main_v139 (F := Ideal) x0 x1 x6 x7 x8) (val_main_v101 (F := Ideal) x0 x6) (val_main_v109 (F := Ideal) x0 x6 x7)
        (val_main_v113 (F := Ideal) x0 x6 x8) (val_main_v103 (F := Ideal) x1) (val_main_v105 (F := Ideal) x1) := rfl

end Cert.Proof.RefDir

end
-- ==== Proof.Equation.lean ====
/- The one equation: over the extended reals the kernel's result and the reference's are the same function of the ten
   arguments, at every node and column. -/
module

public import proofs.«01_k».proof.Proof.KernelScore
public import proofs.«01_k».proof.Proof.KernelDir
public import proofs.«01_k».proof.Proof.RefScore
public import proofs.«01_k».proof.Proof.RefDir

@[expose] public section

set_option maxRecDepth 16384

noncomputable section

namespace Cert.Proof.Equation

open Idealize.ShloMosaic Idealize.ShloMosaic.ValueIdx
open Cert.ReferenceIdeal (S10000x128 S2x320000 S128x128 S8x16 S128)
open Cert.ReferenceIdeal.Read
open Cert.Proof.Heads Cert.Proof.Edges Cert.Proof.HostLine Cert.Proof.Regions Cert.Proof.KernelValue
open scoped BigOperators

variable (x : Vec Ideal S10000x128 .f32) (e : Vec Ideal S2x320000 .i32)
  (w1 : Vec Ideal S128x128 .f32) (s1 d1 : Vec Ideal S8x16 .f32) (b1 : Vec Ideal S128 .f32)
  (w2 : Vec Ideal S128x128 .f32) (s2 d2 : Vec Ideal S8x16 .f32) (b2 : Vec Ideal S128 .f32)

/-- What both programs compute in one direction, before the bias: the edges run from the table's row `p` to its row `q`. -/
def direction (w : Vec Ideal S128x128 .f32) (s d : Vec Ideal S8x16 .f32) (p q : Fin 2) (n : Fin 10000) (h : Fin 8) (c : Fin 16) :
    EReal :=
  gathered (fun n h c => feat x w n (join h c)) (att x w s) (att x w d) (fun k => e (ix2 p k)) (fun k => e (ix2 q k)) n h c

/-! ## The reference -/

theorem ref_first (n : Fin 10000) (h : Fin 8) (c : Fin 16) :
    val_main_v89 (F := Ideal) x e w1 s1 d1 (ix2 n (join h c)) = direction x e w1 s1 d1 0 1 n h c := by
  unfold val_main_v89
  refine (shapeCast_apply _ Cert.ReferenceIdeal.Gen.shapeCasts_S10000x8x16_S10000x128 (ix2 n (join h c)) (ix3 n h c)
    (by rw [Shape.rowMajor_val_three, Shape.rowMajor_val_two]
        show (n.val * 8 + h.val) * 16 + c.val = n.val * 128 + (16 * h.val + c.val); omega)).trans ?_
  rw [RefDir.first_dir, RefDir.refDir_eq]
  unfold direction
  simp only [RefScore.feat_first, RefScore.att_first_src, RefScore.att_first_dst, RefScore.row_first, RefScore.row_second]

theorem ref_second (n : Fin 10000) (h : Fin 8) (c : Fin 16) :
    val_main_v189 (F := Ideal) x e w2 s2 d2 (ix2 n (join h c)) = direction x e w2 s2 d2 1 0 n h c := by
  unfold val_main_v189
  refine (shapeCast_apply _ Cert.ReferenceIdeal.Gen.shapeCasts_S10000x8x16_S10000x128 (ix2 n (join h c)) (ix3 n h c)
    (by rw [Shape.rowMajor_val_three, Shape.rowMajor_val_two]
        show (n.val * 8 + h.val) * 16 + c.val = n.val * 128 + (16 * h.val + c.val); omega)).trans ?_
  rw [RefDir.second_dir, RefDir.refDir_eq]
  unfold direction
  simp only [RefScore.feat_second, RefScore.att_second_src, RefScore.att_second_dst, RefScore.row_third, RefScore.row_fourth]

theorem ref_bias_first (n : Fin 10000) (j : Fin 128) : val_main_v91 (F := Ideal) b1 (ix2 n j) = b1 (ix1 j) := by
  rw [val_main_v91_apply, val_main_v90_apply]
  exact congrArg b1 (funext fun a => match a with | ⟨0, _⟩ => rfl)

theorem ref_bias_second (n : Fin 10000) (j : Fin 128) : val_main_v191 (F := Ideal) b2 (ix2 n j) = b2 (ix1 j) :=
  ref_bias_first b2 n j

theorem ref_apply (i : S10000x128.Idx) : val_main_v197 (F := Ideal) x e w1 s1 d1 b1 w2 s2 d2 b2 i
    = Ideal.ofBits .f32 0x3F000000#32
        * (val_main_v89 (F := Ideal) x e w1 s1 d1 i + val_main_v91 (F := Ideal) b1 i : EReal)
      + Ideal.ofBits .f32 0x3F000000#32
        * (val_main_v189 (F := Ideal) x e w2 s2 d2 i + val_main_v191 (F := Ideal) b2 i : EReal) := by
  have g : val_main_v193 (F := Ideal) i = Ideal.ofBits .f32 0x3F000000#32 := rfl
  have g' : val_main_v195 (F := Ideal) i = Ideal.ofBits .f32 0x3F000000#32 := rfl
  unfold val_main_v197 val_main_v194 val_main_v196 val_main_v92 val_main_v192
  simp only [addf_apply, mulf_apply]
  rw [g, g']

/-! ## The kernel -/

theorem src_row (k : Fin 320000) : srcOf e (ix1 k) = e (ix2 (0 : Fin 2) k) := RefScore.row_first e k
theorem dst_row (k : Fin 320000) : dstOf e (ix1 k) = e (ix2 (1 : Fin 2) k) := RefScore.row_second e k

theorem kernel_first (n : Fin 10000) (h : Fin 8) (c : Fin 16) :
    dirOut (h0Of (hAll x (wAll w1 w2))) (a0Of (aAll x (wAll w1 w2) (cAll s1 d1 s2 d2))) (srcOf e) (dstOf e) (ix2 n (join h c))
      = direction x e w1 s1 d1 0 1 n h c := by
  rw [KernelDir.dirOut_apply _ _ (att x w1 s1) (att x w1 d1) (KernelScore.a0_src x w1 w2 s1 d1 s2 d2)
    (KernelScore.a0_dst x w1 w2 s1 d1 s2 d2)]
  unfold direction
  simp only [KernelScore.h0_apply, src_row, dst_row]

theorem kernel_second (n : Fin 10000) (h : Fin 8) (c : Fin 16) :
    dirOut (h1Of (hAll x (wAll w1 w2))) (a1Of (aAll x (wAll w1 w2) (cAll s1 d1 s2 d2))) (dstOf e) (srcOf e) (ix2 n (join h c))
      = direction x e w2 s2 d2 1 0 n h c := by
  rw [KernelDir.dirOut_apply _ _ (att x w2 s2) (att x w2 d2) (KernelScore.a1_src x w1 w2 s1 d1 s2 d2)
    (KernelScore.a1_dst x w1 w2 s1 d1 s2 d2)]
  unfold direction
  simp only [KernelScore.h1_apply, src_row, dst_row]

theorem bias_apply (j : Fin 128) : biasRow b1 b2 (ix2 (0 : Fin 1) j)
    = (Ideal.ofBits .f32 0x3F000000#32 * b1 (ix1 j) + Ideal.ofBits .f32 0x3F000000#32 * b2 (ix1 j) : EReal) := by
  unfold biasRow
  refine (shapeCast_apply _ Cert.KernelIdeal.Gen.shapeCasts_S128_S1x128 (ix2 (0 : Fin 1) j) (ix1 j)
    (by rw [Shape.rowMajor_val_one, Shape.rowMajor_val_two]
        show j.val = 0 * 128 + j.val; omega)).trans ?_
  rfl

theorem combine_apply (o1 o2 : Vec Ideal S10000x128 .f32) (b : Vec Ideal Cert.KernelIdeal.S1x128 .f32) (n : Fin 10000) (j : Fin 128) :
    Cert.KernelIdeal.Gen.k1_pay1 o1 o2 b (ix2 n j)
      = (Ideal.ofBits .f32 0x3F000000#32 * o1 (ix2 n j) + Ideal.ofBits .f32 0x3F000000#32 * o2 (ix2 n j)
          + b (ix2 (0 : Fin 1) j) : EReal) := by
  unfold Cert.KernelIdeal.Gen.k1_pay1
  simp only [shapeCast_self, addf_apply, mulf_apply]
  rw [broadcastTo_apply b Cert.KernelIdeal.Gen.broadcasts_S1x128_S10000x128 (ix2 n j) (ix2 (0 : Fin 1) j)
    (fun a => match a with | ⟨0, _⟩ => rfl | ⟨1, _⟩ => rfl)]
  rfl

/-- The kernel's result is the reference's. -/
theorem kernel_eq_ref : kernelOut x e w1 s1 d1 b1 w2 s2 d2 b2
    = val_main_v197 (F := Ideal) x e w1 s1 d1 b1 w2 s2 d2 b2 := by
  funext i
  obtain ⟨n, j, rfl⟩ : ∃ (n : Fin 10000) (j : Fin 128), i = ix2 n j :=
    ⟨i 0, i 1, funext fun a => match a with | ⟨0, _⟩ => rfl | ⟨1, _⟩ => rfl⟩
  obtain ⟨h, c, rfl⟩ := join_surj j
  unfold kernelOut
  rw [combine_apply, kernel_first, kernel_second, bias_apply, ref_apply, ref_first, ref_second, ref_bias_first, ref_bias_second]
  exact Softmax.mean_bias _ _ _ _

end Cert.Proof.Equation

end
-- ==== Proof.Algebraic.lean ====
/- The value claim: launched with the same arguments, over the extended reals, every execution of the kernel and every
   execution of the reference end with the same result array, and leave their arguments as they were. -/
module

public import proofs.«01_k».proof.Defs
public import proofs.«01_k».proof.Proof.KernelValue
public import proofs.«01_k».proof.Proof.Equation
public import proofs.«01_k».proof.Proof.Gen.ReferenceIdeal.Run
public import proofs.«01_k».proof.Proof.Gen.ReferenceIdeal.Read

@[expose] public section

set_option maxRecDepth 16384

noncomputable section

namespace Cert.Proof

open Idealize.ShloMosaic Idealize.SL.Sem

/-- The kernel and the reference agree on the result. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, KernelValue.run m g, ?_⟩
  refine (θ_run _ _ _).mono (fun r h c => ⟨(h c).1.trans ?_, (h c).2⟩) (Cert.ReferenceIdeal.Value.run m' g')
  obtain ⟨e0, e1, e2, e3, e4, e5, e6, e7, e8, e9⟩ := hagree c
  refine (Cert.ReferenceIdeal.Read.val_main_v197_eq (StableHlo.launchContents m' c)).trans ?_
  refine Eq.trans ?_ (Equation.kernel_eq_ref _ _ _ _ _ _ _ _ _ _).symm
  rw [← e0, ← e1, ← e2, ← e3, ← e4, ← e5, ← e6, ← e7, ← e8, ← e9]

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts,
    kernel_frame, kernelIdeal_frame, reference_frame, trivial, algebraic⟩

end Cert.Proof

end
